-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite [hPre_finite : Cert.Pre_finite.Facts] (m : (ℓ : Loc Cert.AttendIdeal.nD Cert.AttendIdeal.τ Cert.AttendIdeal.sig) → Buf (Elt Ideal) ℓ) : Prop :=
  ∀ c : Dev Cert.AttendIdeal.nD,
    (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_finite [hPre_finite : Cert.Pre_finite.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_finite.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Search (m : (ℓ : Loc Cert.Search.nD Cert.Search.τ Cert.Search.sig) → Buf (Elt Bits) ℓ) : Prop :=
  True

def Pre_SearchReference (m : (ℓ : Loc Cert.SearchReference.nD Cert.SearchReference.τ Cert.SearchReference.sig) → Buf (Elt Bits) ℓ) : Prop :=
  True

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendIdeal_pre_finite [hAttendIdeal : Cert.AttendIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_AttendReferenceIdeal_pre_finite [hAttendReferenceIdeal : Cert.AttendReferenceIdeal.Facts] [hPre_finite : Cert.Pre_finite.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_finite m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_Search [hSearch : Cert.Search.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0))
      ∧ r.2.sem = fun _ => 0)

def quiescent_SearchReference [hSearchReference : Cert.SearchReference.Facts] : Prop :=
  ∀ (m : (ℓ : Loc Cert.SearchReference.nD Cert.SearchReference.τ Cert.SearchReference.sig) → Buf (Elt Bits) ℓ) (g : Dev Cert.SearchReference.nD → PrngReg), Pre_SearchReference m →
    θ_run (Cert.SearchReference.defs (F := Bits)) (onTc (τ := Cert.SearchReference.τ) (Cert.SearchReference.main (F := Bits))) ⟨m, fun _ => 0, g⟩ (fun r => (∀ c : Dev Cert.SearchReference.nD,
      r.2.mem ((c.tc : Thread Cert.SearchReference.nD Cert.SearchReference.τ).loc Cert.SearchReference.main_arg0) = m ((c.tc : Thread Cert.SearchReference.nD Cert.SearchReference.τ).loc Cert.SearchReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Attend_AttendIdeal : Prop :=
  True

def algebraic_AttendIdeal_AttendReferenceIdeal_pre_finite [hAttendIdeal : Cert.AttendIdeal.Facts] [hAttendReferenceIdeal : Cert.AttendReferenceIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_finite m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)) →
    ∃ (v0 : (c : Dev Cert.AttendIdeal.nD) → Buf (Elt Ideal) ((c.tc : Thread Cert.AttendIdeal.nD Cert.AttendIdeal.τ).loc Cert.AttendIdeal.main_v2)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v2) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v78) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v3) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Qkv_QkvIdeal : Prop :=
  IdealRules.bf16_pair.HalfStatement Cert.QkvIdeal.S1024x512
  ∧ IdealRules.bf16_pair.Statement Cert.QkvIdeal.S1x2048x512 Cert.QkvIdeal.S1x1024x512

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v1) = v0 c
          ∧ r.2.mem ((c.tc : Thread Cert.QkvReferenceIdeal.nD Cert.QkvReferenceIdeal.τ).loc Cert.QkvReferenceIdeal.main_v8) = v1 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def bitexact_Search_SearchReference [hSearch : Cert.Search.Facts] [hSearchReference : Cert.SearchReference.Facts] : Prop :=
  ∀ (m : (ℓ : Loc Cert.Search.nD Cert.Search.τ Cert.Search.sig) → Buf (Elt Bits) ℓ) (g : Dev Cert.Search.nD → PrngReg)
    (m' : (ℓ : Loc Cert.SearchReference.nD Cert.SearchReference.τ Cert.SearchReference.sig) → Buf (Elt Bits) ℓ) (g' : Dev Cert.SearchReference.nD → PrngReg), Pre_Search m →
    (∀ c : Dev Cert.Search.nD,
      m' ((c.tc : Thread Cert.SearchReference.nD Cert.SearchReference.τ).loc Cert.SearchReference.main_arg0) = m ((c.tc : Thread Cert.Search.nD Cert.Search.τ).loc Cert.Search.main_arg0)) →
    ∃ (v0 : (c : Dev Cert.Search.nD) → Buf (Elt Bits) ((c.tc : Thread Cert.Search.nD Cert.Search.τ).loc Cert.Search.main_v18_0)) (v1 : (c : Dev Cert.Search.nD) → Buf (Elt Bits) ((c.tc : Thread Cert.Search.nD Cert.Search.τ).loc Cert.Search.main_v18_1)),
      θ_run (Cert.Search.defs (F := Bits)) (onTc (τ := Cert.Search.τ) (Cert.Search.main (F := Bits))) ⟨m, fun _ => 0, g⟩ (fun r => ∀ c : Dev Cert.Search.nD,
          r.2.mem ((c.tc : Thread Cert.Search.nD Cert.Search.τ).loc Cert.Search.main_v18_0) = v0 c
          ∧ r.2.mem ((c.tc : Thread Cert.Search.nD Cert.Search.τ).loc Cert.Search.main_v18_1) = v1 c
          ∧ r.2.mem ((c.tc : Thread Cert.Search.nD Cert.Search.τ).loc Cert.Search.main_arg0) = m ((c.tc : Thread Cert.Search.nD Cert.Search.τ).loc Cert.Search.main_arg0))
      ∧ θ_run (Cert.SearchReference.defs (F := Bits)) (onTc (τ := Cert.SearchReference.τ) (Cert.SearchReference.main (F := Bits))) ⟨m', fun _ => 0, g'⟩ (fun r => ∀ c : Dev Cert.SearchReference.nD,
          r.2.mem ((c.tc : Thread Cert.SearchReference.nD Cert.SearchReference.τ).loc Cert.SearchReference.main_indices) = v0 c
          ∧ r.2.mem ((c.tc : Thread Cert.SearchReference.nD Cert.SearchReference.τ).loc Cert.SearchReference.main_v22) = v1 c
          ∧ r.2.mem ((c.tc : Thread Cert.SearchReference.nD Cert.SearchReference.τ).loc Cert.SearchReference.main_arg0) = m' ((c.tc : Thread Cert.SearchReference.nD Cert.SearchReference.τ).loc Cert.SearchReference.main_arg0))

def Claim : Prop :=
  ∃ (hKernel : Cert.Kernel.Facts) (hKernelIdeal : Cert.KernelIdeal.Facts) (hReferenceIdeal : Cert.ReferenceIdeal.Facts) (hAttend : Cert.Attend.Facts) (hAttendIdeal : Cert.AttendIdeal.Facts) (hAttendReferenceIdeal : Cert.AttendReferenceIdeal.Facts) (hProject : Cert.Project.Facts) (hProjectIdeal : Cert.ProjectIdeal.Facts) (hProjectReferenceIdeal : Cert.ProjectReferenceIdeal.Facts) (hQkv : Cert.Qkv.Facts) (hQkvIdeal : Cert.QkvIdeal.Facts) (hQkvReferenceIdeal : Cert.QkvReferenceIdeal.Facts) (hSearch : Cert.Search.Facts) (hSearchReference : Cert.SearchReference.Facts) (hPre_in_rows : Cert.Pre_in_rows.Facts) (hPre_finite : Cert.Pre_finite.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ quiescent_Attend (hAttend := hAttend)
    ∧ quiescent_AttendIdeal (hAttendIdeal := hAttendIdeal)
    ∧ quiescent_AttendIdeal_pre_finite (hAttendIdeal := hAttendIdeal) (hPre_finite := hPre_finite)
    ∧ quiescent_AttendReferenceIdeal (hAttendReferenceIdeal := hAttendReferenceIdeal)
    ∧ quiescent_AttendReferenceIdeal_pre_finite (hAttendReferenceIdeal := hAttendReferenceIdeal) (hPre_finite := hPre_finite)
    ∧ quiescent_Project (hProject := hProject)
    ∧ quiescent_ProjectIdeal (hProjectIdeal := hProjectIdeal)
    ∧ quiescent_ProjectReferenceIdeal (hProjectReferenceIdeal := hProjectReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Search (hSearch := hSearch)
    ∧ quiescent_SearchReference (hSearchReference := hSearchReference)
    ∧ preserves_Kernel_KernelIdeal
    ∧ algebraic_KernelIdeal_ReferenceIdeal (hKernelIdeal := hKernelIdeal) (hReferenceIdeal := hReferenceIdeal) (hPre_in_rows := hPre_in_rows)
    ∧ preserves_Attend_AttendIdeal
    ∧ algebraic_AttendIdeal_AttendReferenceIdeal_pre_finite (hAttendIdeal := hAttendIdeal) (hAttendReferenceIdeal := hAttendReferenceIdeal) (hPre_finite := hPre_finite)
    ∧ preserves_Project_ProjectIdeal
    ∧ algebraic_ProjectIdeal_ProjectReferenceIdeal (hProjectIdeal := hProjectIdeal) (hProjectReferenceIdeal := hProjectReferenceIdeal)
    ∧ preserves_Qkv_QkvIdeal
    ∧ algebraic_QkvIdeal_QkvReferenceIdeal (hQkvIdeal := hQkvIdeal) (hQkvReferenceIdeal := hQkvReferenceIdeal)
    ∧ bitexact_Search_SearchReference (hSearch := hSearch) (hSearchReference := hSearchReference)
-- ==== Pre_finite.lean ====
abbrev S1x1024x512 : Shape := ⟨3, ![1, 1024, 512]⟩
abbrev S32768x512 : Shape := ⟨2, ![32768, 512]⟩
abbrev S1x1024x32 : Shape := ⟨3, ![1, 1024, 32]⟩
abbrev S16 : Shape := ⟨1, ![16]⟩
abbrev S_ : Shape := ⟨0, ![]⟩

class Facts : Prop where
  bcast_S_S32768x512 : S_.BroadcastsInDim S32768x512 (![] : Fin 0 → Fin S32768x512.rank)
  bcast_S_S1x1024x512 : S_.BroadcastsInDim S1x1024x512 (![] : Fin 0 → Fin S1x1024x512.rank)
  reducesTo_S1x1024x512_S_d0_1_2 : S1x1024x512.ReducesTo [0, 1, 2] S_
  h_S_ : 0 < S_.numel
  reducesTo_S32768x512_S_d0_1 : S32768x512.ReducesTo [0, 1] S_
  bcast_S_S1x1024x32 : S_.BroadcastsInDim S1x1024x32 (![] : Fin 0 → Fin S1x1024x32.rank)
  reducesTo_S1x1024x32_S_d0_1_2 : S1x1024x32.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg3 : FVec F S16 .f32) (main_v9 : IVec S_ 1) (main_v13 : IVec S_ 1) (main_v16 : IVec S1x1024x32 1) : IVec S_ 1 :=
  let main_c_5 : IVec S_ 1 := constantI S_ 1 1#1
  let main_v17 : IVec S_ 1 := (fun x v => Host.reduce IntOp.andi x v reducesTo_S1x1024x32_S_d0_1_2 h_S_) main_v16 main_c_5
  let main_v18 : FVec F S16 .f32 := Host.absf main_arg3
  let main_cst_6 : FVec F S_ .f32 := constant S_ .f32 0x7F800000#32
  let main_v19 : FVec F S16 .f32 := broadcastInDim S16 ![] bcast_S_S16 main_cst_6
  let main_v20 : IVec S16 1 := cmpf .olt main_v18 main_v19
  let main_c_7 : IVec S_ 1 := constantI S_ 1 1#1
  let main_v21 : IVec S_ 1 := (fun x v => Host.reduce IntOp.andi x v reducesTo_S16_S_d0 h_S_) main_v20 main_c_7
  let main_v22 : IVec S_ 1 := andi main_v9 main_v13
  let main_v23 : IVec S_ 1 := andi main_v22 main_v17
  let main_v24 : IVec S_ 1 := andi main_v23 main_v21
  main_v24

def fn {F : FTy → Type} [FloatOps F] (main_arg0 : FVec F S1x1024x512 .f32) (main_arg1 : IVec S32768x512 32) (main_arg2 : FVec F S1x1024x32 .f32) (main_arg3 : FVec F S16 .f32) : IVec S_ 1 :=
  let main_c : IVec S_ 32 := constantI S_ 32 4294901760#32
  let main_v0 : IVec S32768x512 32 := broadcastInDim S32768x512 ![] bcast_S_S32768x512 main_c
  let main_v1 : IVec S32768x512 32 := andi main_arg1 main_v0
  let main_v2 : FVec F S32768x512 .f32 := bitcastToFloat .f32 main_v1
  let main_c_0 : IVec S_ 32 := constantI S_ 32 16#32
  let main_v3 : IVec S32768x512 32 := broadcastInDim S32768x512 ![] bcast_S_S32768x512 main_c_0
  let main_v4 : IVec S32768x512 32 := Host.shli main_arg1 main_v3
  let main_v5 : FVec F S32768x512 .f32 := bitcastToFloat .f32 main_v4
  let main_v6 : FVec F S1x1024x512 .f32 := Host.absf main_arg0
  let main_cst : FVec F S_ .f32 := constant S_ .f32 0x7F800000#32
  let main_v7 : FVec F S1x1024x512 .f32 := broadcastInDim S1x1024x512 ![] bcast_S_S1x1024x512 main_cst
  let main_v8 : IVec S1x1024x512 1 := cmpf .olt main_v6 main_v7
  let main_c_1 : IVec S_ 1 := constantI S_ 1 1#1
  let main_v9 : IVec S_ 1 := (fun x v => Host.reduce IntOp.andi x v reducesTo_S1x1024x512_S_d0_1_2 h_S_) main_v8 main_c_1
  let main_v10 : FVec F S32768x512 .f32 := Host.absf main_v2
  let main_cst_2 : FVec F S_ .f32 := constant S_ .f32 0x7F800000#32
  let main_v11 : FVec F S32768x512 .f32 := broadcastInDim S32768x512 ![] bcast_S_S32768x512 main_cst_2
  let main_v12 : IVec S32768x512 1 := cmpf .olt main_v10 main_v11
  let main_c_3 : IVec S_ 1 := constantI S_ 1 1#1
  let main_v13 : IVec S_ 1 := (fun x v => Host.reduce IntOp.andi x v reducesTo_S32768x512_S_d0_1 h_S_) main_v12 main_c_3
  let main_v14 : FVec F S1x1024x32 .f32 := Host.absf main_arg2
  let main_cst_4 : FVec F S_ .f32 := constant S_ .f32 0x7F800000#32
  let main_v15 : FVec F S1x1024x32 .f32 := broadcastInDim S1x1024x32 ![] bcast_S_S1x1024x32 main_cst_4
  let main_v16 : IVec S1x1024x32 1 := cmpf .olt main_v14 main_v15
  fn_part1 (F := F) main_arg3 main_v9 main_v13 main_v16
-- ==== Pre_in_rows.lean ====
abbrev S2048x512 : Shape := ⟨2, ![2048, 512]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S2048x512 32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 2048#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Kernel.lean ====
abbrev S2048x512 : Shape := ⟨2, ![2048, 512]⟩
abbrev S32768 : Shape := ⟨1, ![32768]⟩
abbrev S32768x1 : Shape := ⟨2, ![32768, 1]⟩
abbrev S_ : Shape := ⟨0, ![]⟩
abbrev S2 : Shape := ⟨1, ![2]⟩
abbrev S1x2 : Shape := ⟨2, ![1, 2]⟩
abbrev S32768x2 : Shape := ⟨2, ![32768, 2]⟩
abbrev S65536 : Shape := ⟨1, ![65536]⟩
abbrev S4096x2x128 : Shape := ⟨3, ![4096, 2, 128]⟩
abbrev S65536x2x128 : Shape := ⟨3, ![65536, 2, 128]⟩
abbrev S2048 : Shape := ⟨1, ![2048]⟩
abbrev S128x2x128 : Shape := ⟨3, ![128, 2, 128]⟩
abbrev S128 : Shape := ⟨1, ![128]⟩
abbrev S32768x512 : Shape := ⟨2, ![32768, 512]⟩

abbrev nBuf : Table → Nat
  | .hbm => 15
  | .local .scVector .vmem => 3
  | _ => 0

abbrev bufTy : (tb : Table) → Fin (nBuf tb) → BufTy
  | .hbm, ⟨0, _⟩ => ⟨S2048x512, .i32⟩
  | .hbm, ⟨1, _⟩ => ⟨S32768, .i32⟩
  | .hbm, ⟨2, _⟩ => ⟨S32768x1, .i32⟩
  | .hbm, ⟨3, _⟩ => ⟨S_, .i32⟩
  | .hbm, ⟨4, _⟩ => ⟨S32768x1, .i32⟩
  | .hbm, ⟨5, _⟩ => ⟨S32768x1, .i32⟩
  | .hbm, ⟨6, _⟩ => ⟨S2, .i32⟩
  | .hbm, ⟨7, _⟩ => ⟨S1x2, .i32⟩
  | .hbm, ⟨8, _⟩ => ⟨S32768x2, .i32⟩
  | .hbm, ⟨9, _⟩ => ⟨S32768x2, .i32⟩
  | .hbm, ⟨10, _⟩ => ⟨S32768x2, .i32⟩
  | .hbm, ⟨11, _⟩ => ⟨S65536, .i32⟩
  | .hbm, ⟨12, _⟩ => ⟨S4096x2x128, .i32⟩
  | .hbm, ⟨13, _⟩ => ⟨S65536x2x128, .i32⟩
  | .hbm, ⟨14, _⟩ => ⟨S32768x512, .i32⟩
  | .local .scVector .vmem, ⟨0, _⟩ => ⟨S2048, .i32⟩
  | .local .scVector .vmem, ⟨1, _⟩ => ⟨S128x2x128, .i32⟩
  | .local .scVector .vmem, ⟨2, _⟩ => ⟨S128x2x128, .i32⟩
  | _, _ => ⟨S2048x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v9_scv : Ref sig .scVector := ⟨.hbm, 12, rfl⟩
abbrev main_v8_scv : Ref sig .scVector := ⟨.hbm, 11, rfl⟩
abbrev main_v10_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_off2 (k0_t1 : Fin k0_t1_loop.trips) : Fin 1 → Nat :=
  let c2_i32_2 : BitVec 32 := 2#32
  let c0_i32_0 : BitVec 32 := 0#32
  let c1_i32 : BitVec 32 := 1#32
  let arg12 : BitVec 32 := Scf.iv c0_i32_0 c1_i32 k0_t1
  let v4 : BitVec 32 := Scalar.muli c2_i32_2 arg12
  let c128_i32 : BitVec 32 := 128#32
  let v5 : BitVec 32 := Scalar.muli v4 c128_i32
  ![v5.toNat]
def k0_off3 (k0_t1 : Fin k0_t1_loop.trips) : Fin 1 → Nat :=
  let c2_i32_3 : BitVec 32 := 2#32
  let c0_i32_0 : BitVec 32 := 0#32
  let c1_i32 : BitVec 32 := 1#32
  let arg12 : BitVec 32 := Scf.iv c0_i32_0 c1_i32 k0_t1
  let v6 : BitVec 32 := Scalar.muli c2_i32_3 arg12
  let c1_i32_4 : BitVec 32 := 1#32
  let v7 : BitVec 32 := Scalar.addi v6 c1_i32_4
  let c128_i32_5 : BitVec 32 := 128#32
  let v8 : BitVec 32 := Scalar.muli v7 c128_i32_5
  ![v8.toNat]
def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_2 : BitVec 32 := 2#32
  let c0_i32_0 : BitVec 32 := 0#32
  let c1_i32 : BitVec 32 := 1#32
  let arg12 : BitVec 32 := Scf.iv c0_i32_0 c1_i32 k0_t1
  let v4 : BitVec 32 := Scalar.muli c2_i32_2 arg12
  let c128_i32 : BitVec 32 := 128#32
  let v5 : BitVec 32 := Scalar.muli v4 c128_i32
  let v15 : BitVec 32 := Scalar.addi v2 v5
  let c0_i32_15 : BitVec 32 := 0#32
  let c0_i32_16 : BitVec 32 := 0#32
  ![v15.toNat, 0, 0]
def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_3 : BitVec 32 := 2#32
  let c0_i32_0 : BitVec 32 := 0#32
  let c1_i32 : BitVec 32 := 1#32
  let arg12 : BitVec 32 := Scf.iv c0_i32_0 c1_i32 k0_t1
  let v6 : BitVec 32 := Scalar.muli c2_i32_3 arg12
  let c1_i32_4 : BitVec 32 := 1#32
  let v7 : BitVec 32 := Scalar.addi v6 c1_i32_4
  let c128_i32_5 : BitVec 32 := 128#32
  let v8 : BitVec 32 := Scalar.muli v7 c128_i32_5
  let v20 : BitVec 32 := Scalar.addi v2 v8
  let c0_i32_22 : BitVec 32 := 0#32
  let c0_i32_23 : BitVec 32 := 0#32
  ![v20.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x512 : Shape := ⟨2, ![2048, 512]⟩
abbrev S32768 : Shape := ⟨1, ![32768]⟩
abbrev S_ : Shape := ⟨0, ![]⟩
abbrev S32768x1 : Shape := ⟨2, ![32768, 1]⟩
abbrev S32768x512 : Shape := ⟨2, ![32768, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .i32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S32768x512, .i32⟩
  | _, _ => ⟨S2048x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Attend.lean ====
abbrev S1x1024x512 : Shape := ⟨3, ![1, 1024, 512]⟩
abbrev S32768x512 : Shape := ⟨2, ![32768, 512]⟩
abbrev S1x1024x32 : Shape := ⟨3, ![1, 1024, 32]⟩
abbrev S16 : Shape := ⟨1, ![16]⟩
abbrev S1x16 : Shape := ⟨2, ![1, 16]⟩
abbrev S1x32768x512 : Shape := ⟨3, ![1, 32768, 512]⟩
abbrev S1x128x512 : Shape := ⟨3, ![1, 128, 512]⟩
abbrev S1x4096x512 : Shape := ⟨3, ![1, 4096, 512]⟩
abbrev S1x128x32 : Shape := ⟨3, ![1, 128, 32]⟩
abbrev S128x512 : Shape := ⟨2, ![128, 512]⟩
abbrev S128x32 : Shape := ⟨2, ![128, 32]⟩
abbrev S4096x512 : Shape := ⟨2, ![4096, 512]⟩
abbrev S128x1x32 : Shape := ⟨3, ![128, 1, 32]⟩
abbrev S1x16x1 : Shape := ⟨3, ![1, 16, 1]⟩
abbrev S128x16x32 : Shape := ⟨3, ![128, 16, 32]⟩
abbrev S128x32x16 : Shape := ⟨3, ![128, 32, 16]⟩
abbrev S4096x16 : Shape := ⟨2, ![4096, 16]⟩
abbrev S16x512 : Shape := ⟨2, ![16, 512]⟩
abbrev S1x512 : Shape := ⟨2, ![1, 512]⟩
abbrev S128x511 : Shape := ⟨2, ![128, 511]⟩
abbrev S128x1 : Shape := ⟨2, ![128, 1]⟩
abbrev S128x1x512 : Shape := ⟨3, ![128, 1, 512]⟩
abbrev S128x32x512 : Shape := ⟨3, ![128, 32, 512]⟩
abbrev S512x8 : Shape := ⟨2, ![512, 8]⟩
abbrev S4096x8 : Shape := ⟨2, ![4096, 8]⟩
abbrev S128x32x8 : Shape := ⟨3, ![128, 32, 8]⟩
abbrev S128x8 : Shape := ⟨2, ![128, 8]⟩
abbrev S128x1x8 : Shape := ⟨3, ![128, 1, 8]⟩
abbrev S8x512 : Shape := ⟨2, ![8, 512]⟩
abbrev S4096x511 : Shape := ⟨2, ![4096, 511]⟩
abbrev S4096x1 : Shape := ⟨2, ![4096, 1]⟩

abbrev nBuf : Space → Nat
  | .hbm => 7
  | .vmem => 9
  | .smem => 0
  | _ => 0

abbrev bufTy : (tb : Table) → Fin (tcTables nBuf tb) → BufTy
  | .hbm, ⟨0, _⟩ => ⟨S1x1024x512, .f32⟩
  | .hbm, ⟨1, _⟩ => ⟨S32768x512, .i32⟩
  | .hbm, ⟨2, _⟩ => ⟨S1x1024x32, .f32⟩
  | .hbm, ⟨3, _⟩ => ⟨S16, .f32⟩
  | .hbm, ⟨4, _⟩ => ⟨S1x16, .f32⟩
  | .hbm, ⟨5, _⟩ => ⟨S1x32768x512, .i32⟩
  | .hbm, ⟨6, _⟩ => ⟨S1x1024x512, .f32⟩
  | .local _ .vmem, ⟨0, _⟩ => ⟨S1x128x512, .f32⟩
  | .local _ .vmem, ⟨1, _⟩ => ⟨S1x128x512, .f32⟩
  | .local _ .vmem, ⟨2, _⟩ => ⟨S1x4096x512, .i32⟩
  | .local _ .vmem, ⟨3, _⟩ => ⟨S1x4096x512, .i32⟩
  | .local _ .vmem, ⟨4, _⟩ => ⟨S1x128x32, .f32⟩
  | .local _ .vmem, ⟨5, _⟩ => ⟨S1x128x32, .f32⟩
  | .local _ .vmem, ⟨6, _⟩ => ⟨S1x16, .f32⟩
  | .local _ .vmem, ⟨7, _⟩ => ⟨S1x128x512, .f32⟩
  | .local _ .vmem, ⟨8, _⟩ => ⟨S1x128x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttendReferenceIdeal.lean ====
abbrev S1x1024x512 : Shape := ⟨3, ![1, 1024, 512]⟩
abbrev S32768x512 : Shape := ⟨2, ![32768, 512]⟩
abbrev S1x1024x32 : Shape := ⟨3, ![1, 1024, 32]⟩
abbrev S16 : Shape := ⟨1, ![16]⟩
abbrev S_ : Shape := ⟨0, ![]⟩
abbrev S1024x1x8x64 : Shape := ⟨4, ![1024, 1, 8, 64]⟩
abbrev S1024x32x8x64 : Shape := ⟨4, ![1024, 32, 8, 64]⟩
abbrev S1024x32x1x1 : Shape := ⟨4, ![1024, 32, 1, 1]⟩
abbrev S1x1x1x16 : Shape := ⟨4, ![1, 1, 1, 16]⟩
abbrev S1024x32x1x16 : Shape := ⟨4, ![1024, 32, 1, 16]⟩
abbrev S1024x32x1x16x2 : Shape := ⟨5, ![1024, 32, 1, 16, 2]⟩
abbrev S1024x32x1x32 : Shape := ⟨4, ![1024, 32, 1, 32]⟩
abbrev S1024x32x8x32 : Shape := ⟨4, ![1024, 32, 8, 32]⟩
abbrev S1024x32x8x16x2 : Shape := ⟨5, ![1024, 32, 8, 16, 2]⟩
abbrev S1024x32x8x16x1 : Shape := ⟨5, ![1024, 32, 8, 16, 1]⟩
abbrev S1024x32x8x16 : Shape := ⟨4, ![1024, 32, 8, 16]⟩
abbrev S1024x32x8 : Shape := ⟨3, ![1024, 32, 8]⟩
abbrev S1024x8 : Shape := ⟨2, ![1024, 8]⟩
abbrev S1024x1x8 : Shape := ⟨3, ![1024, 1, 8]⟩
abbrev S1024x32x8x1 : Shape := ⟨4, ![1024, 32, 8, 1]⟩
abbrev S1024x8x64 : Shape := ⟨3, ![1024, 8, 64]⟩

abbrev nBuf : Space → Nat
  | .hbm => 92
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S32768x512, .i32⟩
  | .hbm, ⟨2, _⟩ => ⟨S1x1024x32, .f32⟩
  | .hbm, ⟨3, _⟩ => ⟨S16, .f32⟩
  | .hbm, ⟨4, _⟩ => ⟨S_, .i32⟩
  | .hbm, ⟨5, _⟩ => ⟨S32768x512, .i32⟩
  | .hbm, ⟨6, _⟩ => ⟨S32768x512, .i32⟩
  | .hbm, ⟨7, _⟩ => ⟨S32768x512, .f32⟩
  | .hbm, ⟨8, _⟩ => ⟨S_, .i32⟩
  | .hbm, ⟨9, _⟩ => ⟨S32768x512, .i32⟩
  | .hbm, ⟨10, _⟩ => ⟨S32768x512, .i32⟩
  | .hbm, ⟨11, _⟩ => ⟨S32768x512, .f32⟩
  | .hbm, ⟨12, _⟩ => ⟨S1024x1x8x64, .f32⟩
  | .hbm, ⟨13, _⟩ => ⟨S1024x32x8x64, .f32⟩
  | .hbm, ⟨14, _⟩ => ⟨S1024x32x8x64, .f32⟩
  | .hbm, ⟨15, _⟩ => ⟨S1024x32x1x1, .f32⟩
  | .hbm, ⟨16, _⟩ => ⟨S_, .f32⟩
  | .hbm, ⟨17, _⟩ => ⟨S1024x32x1x1, .f32⟩
  | .hbm, ⟨18, _⟩ => ⟨S1024x32x1x1, .f32⟩
  | .hbm, ⟨19, _⟩ => ⟨S1x1x1x16, .f32⟩
  | .hbm, ⟨20, _⟩ => ⟨S1024x32x1x16, .f32⟩
  | .hbm, ⟨21, _⟩ => ⟨S1024x32x1x16, .f32⟩
  | .hbm, ⟨22, _⟩ => ⟨S1024x32x1x16, .f32⟩
  | .hbm, ⟨23, _⟩ => ⟨S1024x32x1x16x2, .f32⟩
  | .hbm, ⟨24, _⟩ => ⟨S1024x32x1x32, .f32⟩
  | .hbm, ⟨25, _⟩ => ⟨S1024x32x8x32, .f32⟩
  | .hbm, ⟨26, _⟩ => ⟨S1024x32x8x32, .f32⟩
  | .hbm, ⟨27, _⟩ => ⟨S1024x32x1x32, .f32⟩
  | .hbm, ⟨28, _⟩ => ⟨S1024x32x8x32, .f32⟩
  | .hbm, ⟨29, _⟩ => ⟨S1024x32x8x32, .f32⟩
  | .hbm, ⟨30, _⟩ => ⟨S1024x32x8x16x2, .f32⟩
  | .hbm, ⟨31, _⟩ => ⟨S1024x32x8x16x1, .f32⟩
  | .hbm, ⟨32, _⟩ => ⟨S1024x32x8x16, .f32⟩
  | .hbm, ⟨33, _⟩ => ⟨S1024x32x8x16, .f32⟩
  | .hbm, ⟨34, _⟩ => ⟨S1024x32x8x16x1, .f32⟩
  | .hbm, ⟨35, _⟩ => ⟨S1024x32x8x16, .f32⟩
  | .hbm, ⟨36, _⟩ => ⟨S1024x32x8x16x1, .f32⟩
  | .hbm, ⟨37, _⟩ => ⟨S1024x32x8x16x1, .f32⟩
  | .hbm, ⟨38, _⟩ => ⟨S1024x32x8x16x2, .f32⟩
  | .hbm, ⟨39, _⟩ => ⟨S1024x32x8x32, .f32⟩
  | .hbm, ⟨40, _⟩ => ⟨S1024x32x1x32, .f32⟩
  | .hbm, ⟨41, _⟩ => ⟨S1024x32x8x32, .f32⟩
  | .hbm, ⟨42, _⟩ => ⟨S1024x32x8x32, .f32⟩
  | .hbm, ⟨43, _⟩ => ⟨S1024x32x8x32, .f32⟩
  | .hbm, ⟨44, _⟩ => ⟨S1024x32x8x64, .f32⟩
  | .hbm, ⟨45, _⟩ => ⟨S1024x32x8x32, .f32⟩
  | .hbm, ⟨46, _⟩ => ⟨S1024x32x8x32, .f32⟩
  | .hbm, ⟨47, _⟩ => ⟨S1024x32x1x32, .f32⟩
  | .hbm, ⟨48, _⟩ => ⟨S1024x32x8x32, .f32⟩
  | .hbm, ⟨49, _⟩ => ⟨S1024x32x8x32, .f32⟩
  | .hbm, ⟨50, _⟩ => ⟨S1024x32x8x16x2, .f32⟩
  | .hbm, ⟨51, _⟩ => ⟨S1024x32x8x16x1, .f32⟩
  | .hbm, ⟨52, _⟩ => ⟨S1024x32x8x16, .f32⟩
  | .hbm, ⟨53, _⟩ => ⟨S1024x32x8x16, .f32⟩
  | .hbm, ⟨54, _⟩ => ⟨S1024x32x8x16x1, .f32⟩
  | .hbm, ⟨55, _⟩ => ⟨S1024x32x8x16, .f32⟩
  | .hbm, ⟨56, _⟩ => ⟨S1024x32x8x16x1, .f32⟩
  | .hbm, ⟨57, _⟩ => ⟨S1024x32x8x16x1, .f32⟩
  | .hbm, ⟨58, _⟩ => ⟨S1024x32x8x16x2, .f32⟩
  | .hbm, ⟨59, _⟩ => ⟨S1024x32x8x32, .f32⟩
  | .hbm, ⟨60, _⟩ => ⟨S1024x32x1x32, .f32⟩
  | .hbm, ⟨61, _⟩ => ⟨S1024x32x8x32, .f32⟩
  | .hbm, ⟨62, _⟩ => ⟨S1024x32x8x32, .f32⟩
  | .hbm, ⟨63, _⟩ => ⟨S1024x32x8x32, .f32⟩
  | .hbm, ⟨64, _⟩ => ⟨S1024x32x8x64, .f32⟩
  | .hbm, ⟨65, _⟩ => ⟨S1024x32x8x64, .f32⟩
  | .hbm, ⟨66, _⟩ => ⟨S1024x32x8x64, .f32⟩
  | .hbm, ⟨67, _⟩ => ⟨S_, .f32⟩
  | .hbm, ⟨68, _⟩ => ⟨S1024x32x8, .f32⟩
  | .hbm, ⟨69, _⟩ => ⟨S_, .f32⟩
  | .hbm, ⟨70, _⟩ => ⟨S1024x32x8, .f32⟩
  | .hbm, ⟨71, _⟩ => ⟨S1024x32x8, .f32⟩
  | .hbm, ⟨72, _⟩ => ⟨S_, .f32⟩
  | .hbm, ⟨73, _⟩ => ⟨S1024x8, .f32⟩
  | .hbm, ⟨74, _⟩ => ⟨S_, .f32⟩
  | .hbm, ⟨75, _⟩ => ⟨S1024x8, .f32⟩
  | .hbm, ⟨76, _⟩ => ⟨S1024x8, .f32⟩
  | .hbm, ⟨77, _⟩ => ⟨S1024x1x8, .f32⟩
  | .hbm, ⟨78, _⟩ => ⟨S1024x32x8, .f32⟩
  | .hbm, ⟨79, _⟩ => ⟨S1024x32x8, .f32⟩
  | .hbm, ⟨80, _⟩ => ⟨S1024x32x8, .f32⟩
  | .hbm, ⟨81, _⟩ => ⟨S_, .f32⟩
  | .hbm, ⟨82, _⟩ => ⟨S1024x8, .f32⟩
  | .hbm, ⟨83, _⟩ => ⟨S1024x1x8, .f32⟩
  | .hbm, ⟨84, _⟩ => ⟨S1024x32x8, .f32⟩
  | .hbm, ⟨85, _⟩ => ⟨S1024x32x8, .f32⟩
  | .hbm, ⟨86, _⟩ => ⟨S1024x32x8x1, .f32⟩
  | .hbm, ⟨87, _⟩ => ⟨S1024x32x8x64, .f32⟩
  | .hbm, ⟨88, _⟩ => ⟨S1024x32x8x64, .f32⟩
  | .hbm, ⟨89, _⟩ => ⟨S_, .f32⟩
  | .hbm, ⟨90, _⟩ => ⟨S1024x8x64, .f32⟩
  | .hbm, ⟨91, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_1 : Ref sig .tc := ⟨.hbm, 67, rfl⟩
abbrev main_v60 : Ref sig .tc := ⟨.hbm, 68, rfl⟩
abbrev main_cst_2 : Ref sig .tc := ⟨.hbm, 69, rfl⟩
abbrev main_v61 : Ref sig .tc := ⟨.hbm, 70, rfl⟩
abbrev main_v62 : Ref sig .tc := ⟨.hbm, 71, rfl⟩
abbrev main_cst_3 : Ref sig .tc := ⟨.hbm, 72, rfl⟩
abbrev main_v63 : Ref sig .tc := ⟨.hbm, 73, rfl⟩
abbrev main_cst_4 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_6 : Ref sig .tc := ⟨.hbm, 89, rfl⟩
abbrev main_v77 : Ref sig .tc := ⟨.hbm, 90, rfl⟩
abbrev main_v78 : Ref sig .tc := ⟨.hbm, 91, rfl⟩

abbrev nD : Nat := 1
abbrev τ : Topo := Topo.v7x

variable {F : FTy → Type} [FloatOps F]
-- ==== Project.lean ====
abbrev S2x1024x512 : Shape := ⟨3, ![2, 1024, 512]⟩
abbrev S512x512 : Shape := ⟨2, ![512, 512]⟩
abbrev S512 : Shape := ⟨1, ![512]⟩
abbrev S1x512 : Shape := ⟨2, ![1, 512]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x1024x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S2x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S1x512, .f32⟩
  | .local _ .vmem, ⟨4, _⟩ => ⟨S1x1024x512, .f32⟩
  | .local _ .vmem, ⟨5, _⟩ => ⟨S1x1024x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectReferenceIdeal.lean ====
abbrev S2x1024x512 : Shape := ⟨3, ![2, 1024, 512]⟩
abbrev S512x512 : Shape := ⟨2, ![512, 512]⟩
abbrev S512 : Shape := ⟨1, ![512]⟩
abbrev S1x1x512 : Shape := ⟨3, ![1, 1, 512]⟩

abbrev nBuf : Space → Nat
  | .hbm => 7
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x512, .f32⟩
  | .hbm, ⟨2, _⟩ => ⟨S512, .f32⟩
  | .hbm, ⟨3, _⟩ => ⟨S2x1024x512, .f32⟩
  | .hbm, ⟨4, _⟩ => ⟨S1x1x512, .f32⟩
  | .hbm, ⟨5, _⟩ => ⟨S2x1024x512, .f32⟩
  | .hbm, ⟨6, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qkv.lean ====
abbrev S2x1024x512 : Shape := ⟨3, ![2, 1024, 512]⟩
abbrev S512x1536 : Shape := ⟨2, ![512, 1536]⟩
abbrev S2x2048x512 : Shape := ⟨3, ![2, 2048, 512]⟩
abbrev S1x1024x512 : Shape := ⟨3, ![1, 1024, 512]⟩
abbrev S1x2048x512 : Shape := ⟨3, ![1, 2048, 512]⟩
abbrev S1024x512 : Shape := ⟨2, ![1024, 512]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S2x1024x512, .f32⟩
  | .hbm, ⟨1, _⟩ => ⟨S512x1536, .f32⟩
  | .hbm, ⟨2, _⟩ => ⟨S2x1024x512, .f32⟩
  | .hbm, ⟨3, _⟩ => ⟨S2x2048x512, .bf16⟩
  | .local _ .vmem, ⟨0, _⟩ => ⟨S1x1024x512, .f32⟩
  | .local _ .vmem, ⟨1, _⟩ => ⟨S1x1024x512, .f32⟩
  | .local _ .vmem, ⟨2, _⟩ => ⟨S512x1536, .f32⟩
  | .local _ .vmem, ⟨3, _⟩ => ⟨S1x1024x512, .f32⟩
  | .local _ .vmem, ⟨4, _⟩ => ⟨S1x1024x512, .f32⟩
  | .local _ .vmem, ⟨5, _⟩ => ⟨S1x2048x512, .bf16⟩
  | .local _ .vmem, ⟨6, _⟩ => ⟨S1x2048x512, .bf16⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvIdeal.lean ====
variable {F : FTy → Type} [FloatOps F]
-- ==== QkvReferenceIdeal.lean ====
abbrev S2x1024x512 : Shape := ⟨3, ![2, 1024, 512]⟩
abbrev S512x1536 : Shape := ⟨2, ![512, 1536]⟩
abbrev S2x1024x1536 : Shape := ⟨3, ![2, 1024, 1536]⟩
abbrev S2x1024x1x512 : Shape := ⟨4, ![2, 1024, 1, 512]⟩
abbrev S2x1024x2x512 : Shape := ⟨4, ![2, 1024, 2, 512]⟩
abbrev S2x2048x512 : Shape := ⟨3, ![2, 2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x1536, .f32⟩
  | .hbm, ⟨2, _⟩ => ⟨S2x1024x1536, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x1x512, .f32⟩
  | .hbm, ⟨7, _⟩ => ⟨S2x1024x1x512, .f32⟩
  | .hbm, ⟨8, _⟩ => ⟨S2x1024x2x512, .f32⟩
  | .hbm, ⟨9, _⟩ => ⟨S2x1024x2x512, .bf16⟩
  | .hbm, ⟨10, _⟩ => ⟨S2x2048x512, .bf16⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Search.lean ====
abbrev S1x1024x3 : Shape := ⟨3, ![1, 1024, 3]⟩
abbrev S1x1024x1 : Shape := ⟨3, ![1, 1024, 1]⟩
abbrev S1x1024 : Shape := ⟨2, ![1, 1024]⟩
abbrev S1x1x1024 : Shape := ⟨3, ![1, 1, 1024]⟩
abbrev S1x1024x32 : Shape := ⟨3, ![1, 1024, 32]⟩
abbrev S1x256x1 : Shape := ⟨3, ![1, 256, 1]⟩
abbrev S1x256x32 : Shape := ⟨3, ![1, 256, 32]⟩
abbrev S256x1 : Shape := ⟨2, ![256, 1]⟩
abbrev S256x1024 : Shape := ⟨2, ![256, 1024]⟩
abbrev S256 : Shape := ⟨1, ![256]⟩
abbrev S256x32 : Shape := ⟨2, ![256, 32]⟩

abbrev nBuf : Space → Nat
  | .hbm => 21
  | .vmem => 13
  | .smem => 0
  | _ => 0

abbrev bufTy : (tb : Table) → Fin (tcTables nBuf tb) → BufTy
  | .hbm, ⟨0, _⟩ => ⟨S1x1024x3, .f32⟩
  | .hbm, ⟨1, _⟩ => ⟨S1x1024x1, .f32⟩
  | .hbm, ⟨2, _⟩ => ⟨S1x1024, .f32⟩
  | .hbm, ⟨3, _⟩ => ⟨S1x1024x1, .f32⟩
  | .hbm, ⟨4, _⟩ => ⟨S1x1024x1, .f32⟩
  | .hbm, ⟨5, _⟩ => ⟨S1x1024, .f32⟩
  | .hbm, ⟨6, _⟩ => ⟨S1x1024x1, .f32⟩
  | .hbm, ⟨7, _⟩ => ⟨S1x1024x1, .f32⟩
  | .hbm, ⟨8, _⟩ => ⟨S1x1024, .f32⟩
  | .hbm, ⟨9, _⟩ => ⟨S1x1024x1, .f32⟩
  | .hbm, ⟨10, _⟩ => ⟨S1x1024x1, .f32⟩
  | .hbm, ⟨11, _⟩ => ⟨S1x1024, .f32⟩
  | .hbm, ⟨12, _⟩ => ⟨S1x1x1024, .f32⟩
  | .hbm, ⟨13, _⟩ => ⟨S1x1024x1, .f32⟩
  | .hbm, ⟨14, _⟩ => ⟨S1x1024, .f32⟩
  | .hbm, ⟨15, _⟩ => ⟨S1x1x1024, .f32⟩
  | .hbm, ⟨16, _⟩ => ⟨S1x1024x1, .f32⟩
  | .hbm, ⟨17, _⟩ => ⟨S1x1024, .f32⟩
  | .hbm, ⟨18, _⟩ => ⟨S1x1x1024, .f32⟩
  | .hbm, ⟨19, _⟩ => ⟨S1x1024x32, .i32⟩
  | .hbm, ⟨20, _⟩ => ⟨S1x1024x32, .f32⟩
  | .local _ .vmem, ⟨0, _⟩ => ⟨S1x256x1, .f32⟩
  | .local _ .vmem, ⟨1, _⟩ => ⟨S1x256x1, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x256x32, .i32⟩
  | .local _ .vmem, ⟨10, _⟩ => ⟨S1x256x32, .i32⟩
  | .local _ .vmem, ⟨11, _⟩ => ⟨S1x256x32, .f32⟩
  | .local _ .vmem, ⟨12, _⟩ => ⟨S1x256x32, .f32⟩
  | _, _ => ⟨S1x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18_0 : Ref sig .tc := ⟨.hbm, 19, rfl⟩
abbrev main_v18_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x256x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SearchReference.lean ====
abbrev S1x1024x3 : Shape := ⟨3, ![1, 1024, 3]⟩
abbrev S1x1024x1x3 : Shape := ⟨4, ![1, 1024, 1, 3]⟩
abbrev S1x1x1024x3 : Shape := ⟨4, ![1, 1, 1024, 3]⟩
abbrev S1x1024x1024x3 : Shape := ⟨4, ![1, 1024, 1024, 3]⟩
abbrev S1x1024x1024x1 : Shape := ⟨4, ![1, 1024, 1024, 1]⟩
abbrev S1x1024x1024 : Shape := ⟨3, ![1, 1024, 1024]⟩
abbrev S_ : Shape := ⟨0, ![]⟩
abbrev S1x1024x32 : Shape := ⟨3, ![1, 1024, 32]⟩

abbrev nBuf : Space → Nat
  | .hbm => 27
  | .vmem => 2
  | .smem => 0
  | _ => 0

abbrev bufTy : (tb : Table) → Fin (tcTables nBuf tb) → BufTy
  | .hbm, ⟨0, _⟩ => ⟨S1x1024x3, .f32⟩
  | .hbm, ⟨1, _⟩ => ⟨S1x1024x1x3, .f32⟩
  | .hbm, ⟨2, _⟩ => ⟨S1x1x1024x3, .f32⟩
  | .hbm, ⟨3, _⟩ => ⟨S1x1024x1024x3, .f32⟩
  | .hbm, ⟨4, _⟩ => ⟨S1x1024x1024x3, .f32⟩
  | .hbm, ⟨5, _⟩ => ⟨S1x1024x1024x3, .f32⟩
  | .hbm, ⟨6, _⟩ => ⟨S1x1024x1024x1, .f32⟩
  | .hbm, ⟨7, _⟩ => ⟨S1x1024x1024, .f32⟩
  | .hbm, ⟨8, _⟩ => ⟨S1x1024x1024x1, .f32⟩
  | .hbm, ⟨9, _⟩ => ⟨S1x1024x1024, .f32⟩
  | .hbm, ⟨10, _⟩ => ⟨S1x1024x1024x1, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S1x1024x1024, .i32⟩
  | .hbm, ⟨18, _⟩ => ⟨S_, .i32⟩
  | .hbm, ⟨19, _⟩ => ⟨S1x1024x1024, .i32⟩
  | .hbm, ⟨20, _⟩ => ⟨S1x1024x1024, .i32⟩
  | .hbm, ⟨21, _⟩ => ⟨S1x1024x1024, .i32⟩
  | .hbm, ⟨22, _⟩ => ⟨S1x1024x32, .i32⟩
  | .hbm, ⟨23, _⟩ => ⟨S1x1024x32, .i32⟩
  | .hbm, ⟨24, _⟩ => ⟨S1x1024x32, .i32⟩
  | .hbm, ⟨25, _⟩ => ⟨S1x1024x32, .f32⟩
  | .hbm, ⟨26, _⟩ => ⟨S1x1024x32, .f32⟩
  | .local _ .vmem, ⟨0, _⟩ => ⟨S1x1024x32, .f32⟩
  | .local _ .vmem, ⟨1, _⟩ => ⟨S1x1024x32, .f32⟩
  | _, _ => ⟨S1x1024x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_c : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_values : Ref sig .tc := ⟨.hbm, 22, rfl⟩
abbrev main_indices : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

abbrev stage0_0 : Fin 1 → Memref sig .tc .vmem S1x1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Setup.lean ====
/-
  The set-up of the SparseCore call: the launch theorem's view of the program, the operands as a tile sees them, what
  each of the thirty-two tiles is handed and what it hands back.

  Tile `w = 2 s + c` (SparseCore `c`, vector subcore `s`) reads a share of the whole table and of the whole list, and owns
  the 2048 rows from row `2048 w` of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped, and no scratch is shared by the tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The operands: the table, the list of half rows, the result -/

abbrev tLoc (d : Dev nD) : Loc nD τ sig := (SparseCore.T d).loc main_v9
abbrev lLoc (d : Dev nD) : Loc nD τ sig := (SparseCore.T d).loc main_v8
abbrev oLoc (d : Dev nD) : Loc nD τ sig := (SparseCore.T d).loc main_v10

/-- The table, the list and the result as a tile addresses them; its list scratch and its two row buffers. -/
abbrev tV : Memref sig .scVector .hbm S4096x2x128 .i32 := Memref.whole main_v9_scv
abbrev lV : Memref sig .scVector .hbm S65536 .i32 := Memref.whole main_v8_scv
abbrev oV : Memref sig .scVector .hbm S65536x2x128 .i32 := Memref.whole main_v10_scv
abbrev iV : Memref sig .scVector .vmem S2048 .i32 := Memref.whole cc0_scratch0
abbrev aV : Memref sig .scVector .vmem S128x2x128 .i32 := Memref.whole cc0_scratch1
abbrev bV : Memref sig .scVector .vmem S128x2x128 .i32 := Memref.whole cc0_scratch2

/-- The half row that position `r` of the list names (`lt` below: the list's words are in range). -/
def halfRow (fl : S65536.Idx → BitVec 32) (r : Fin 65536) : Fin 4096 :=
  ⟨(fl fun | 0 => r).toNat % 4096, Nat.mod_lt _ (by decide)⟩

/-- What the call leaves in the result: row `r` is the table's half row that the list names at `r`. -/
def gathered (ft : S4096x2x128.Idx → BitVec 32) (fl : S65536.Idx → BitVec 32) (x : S65536x2x128.Idx) : BitVec 32 :=
  ft fun | 0 => halfRow fl (x 0) | 1 => x 1 | 2 => x 2

theorem odiv : 32 ∣ S65536x2x128.size 0 := ⟨2048, rfl⟩
/-- Tile `w`'s rows of the result. -/
abbrev orow (w : Fin 32) : Rect S65536x2x128 := Rect.part (s := S65536x2x128) (a₀ := 0) odiv w
abbrev oRowSet (w : Fin 32) : Finset S65536x2x128.Idx := (orow w).set

/-- Tile `w`'s share of an operand that every tile reads. -/
abbrev rq (w : Fin 32) : PosShare TreeShare := pieceOf fullShare 32 (by decide) w

/-- The tile of subcore `s` of SparseCore `c`. -/
def wid (c : Fin 2) (s : Fin 16) : Fin 32 := ⟨2 * s.val + c.val, by omega⟩

theorem mem_oRowSet (w : Fin 32) (x : S65536x2x128.Idx) :
    x ∈ oRowSet w ↔ 2048 * w.val ≤ (x 0).val ∧ (x 0).val < 2048 * w.val + 2048 := by
  have h1 : (x 1).val < 2 := (x 1).isLt
  have h2 : (x 2).val < 128 := (x 2).isLt
  rw [LoadRect.mem_set]
  constructor
  · intro h
    obtain ⟨j, hj, e⟩ := h 0
    simp [orow, Rect.part, Rect.block, Shape.partIx, Shape.partSize] at hj e
    omega
  · rintro ⟨ha, hb⟩ a
    match a with
    | 0 => exact ⟨(x 0).val - 2048 * w.val, by simp [orow, Rect.part, Rect.block, Shape.partIx, Shape.partSize]; omega,
        by simp [orow, Rect.part, Rect.block, Shape.partIx, Shape.partSize]; omega⟩
    | 1 => exact ⟨(x 1).val, by simp [orow, Rect.part, Rect.block, Shape.partIx, Shape.partSize]; omega,
        by simp [orow, Rect.part, Rect.block, Shape.partIx, Shape.partSize]⟩
    | 2 => exact ⟨(x 2).val, by simp [orow, Rect.part, Rect.block, Shape.partIx, Shape.partSize]; omega,
        by simp [orow, Rect.part, Rect.block, Shape.partIx, Shape.partSize]⟩

end Cert.Proof.Gather

end
-- ==== Proof.Tile.lean ====
/-
  One tile's task: the fetch of its part of the list, then eight trips, each with two indirect gathers in flight at once
  and two writes of the gathered half rows to the tile's rows of the result.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile's number. -/
abbrev wL (L : grid0.Coords) : Fin 32 := wid (Fin.cast bound_zero (L 0)) (Fin.cast bound_one (L 1))

/-! ## The windows that the task addresses -/

/-- The tile's part of the list, -/
abbrev lK (L : grid0.Coords) : Memref sig .scVector .hbm S2048 .i32 :=
  (lV).slice (Rect.unit (s := S65536) (k0_off1 L) S2048.size (k0_off1_inb L)) (fun _ => rfl)
/-- the whole table, as the gathers read it, -/
abbrev tK : Memref sig .scVector .hbm S4096x2x128 .i32 :=
  (tV).slice (Rect.unit (s := S4096x2x128) ![0, 0, 0] S4096x2x128.size inb_S4096x2x128_S4096x2x128_0_0_0) (fun _ => rfl)
/-- trip `t`'s two pieces of the fetched list -/
abbrev iA (t : Fin k0_t1_loop.trips) : Memref sig .scVector .vmem S128 .i32 :=
  (iV).slice (Rect.unit (s := S2048) (k0_off2 t) S128.size (k0_off2_inb t)) (fun _ => rfl)
abbrev iB (t : Fin k0_t1_loop.trips) : Memref sig .scVector .vmem S128 .i32 :=
  (iV).slice (Rect.unit (s := S2048) (k0_off3 t) S128.size (k0_off3_inb t)) (fun _ => rfl)
/-- and its two windows of the result. -/
abbrev oA (L : grid0.Coords) (t : Fin k0_t1_loop.trips) : Memref sig .scVector .hbm S128x2x128 .i32 :=
  (oV).slice (Rect.unit (s := S65536x2x128) (k0_off4 L t) S128x2x128.size (k0_off4_inb L t)) (fun _ => rfl)
abbrev oB (L : grid0.Coords) (t : Fin k0_t1_loop.trips) : Memref sig .scVector .hbm S128x2x128 .i32 :=
  (oV).slice (Rect.unit (s := S65536x2x128) (k0_off5 L t) S128x2x128.size (k0_off5_inb L t)) (fun _ => rfl)

theorem trip_lt (t : Fin k0_t1_loop.trips) : t.val < 8 := Nat.lt_of_lt_of_le t.isLt k0_t1_abs.2.1

/-- The elements of 128 rows of the result from row `n`. -/
theorem mem_rows (off : Fin 3 → Nat) (h : ∀ a, off a + S128x2x128.size a ≤ S65536x2x128.size a) (n : Nat) (e : off = ![n, 0, 0])
    (x : S65536x2x128.Idx) :
    x ∈ ((oV).view.slice (Rect.unit (s := S65536x2x128) off S128x2x128.size h)).set ↔ n ≤ (x 0).val ∧ (x 0).val < n + 128 := by
  subst e
  have h1 : (x 1).val < 2 := (x 1).isLt
  have h2 : (x 2).val < 128 := (x 2).isLt
  rw [show ((oV).view.slice (Rect.unit (s := S65536x2x128) ![n, 0, 0] S128x2x128.size h)).set
    = (Rect.unit (s := S65536x2x128) ![n, 0, 0] S128x2x128.size h).set from View.set_slice_whole _ _, LoadRect.mem_set]
  constructor
  · intro hx
    obtain ⟨j, hj, e⟩ := hx 0
    simp [Rect.unit] at hj e
    change j < 128 at hj
    omega
  · rintro ⟨ha, hb⟩ a
    match a with
    | 0 => exact ⟨(x 0).val - n, by show _ < 128; omega, by simp [Rect.unit]; omega⟩
    | 1 => exact ⟨(x 1).val, by show _ < 2; omega, by simp [Rect.unit]⟩
    | 2 => exact ⟨(x 2).val, by show _ < 128; omega, by simp [Rect.unit]⟩

/-- The first row of trip `t`'s windows. -/
def base (L : grid0.Coords) (t : Nat) : Nat := 4096 * (L 1).val + 2048 * (L 0).val + 256 * t

theorem mem_oA (t : Fin k0_t1_loop.trips) (x : S65536x2x128.Idx) :
    x ∈ (oA L t).view.set ↔ base L t ≤ (x 0).val ∧ (x 0).val < base L t + 128 :=
  mem_rows _ (k0_off4_inb L t) _ (k0_off4_eq L t) x
theorem mem_oB (t : Fin k0_t1_loop.trips) (x : S65536x2x128.Idx) :
    x ∈ (oB L t).view.set ↔ base L t + 128 ≤ (x 0).val ∧ (x 0).val < base L t + 128 + 128 :=
  mem_rows _ (k0_off5_inb L t) _ (k0_off5_eq L t) x
theorem mem_oRow (x : S65536x2x128.Idx) :
    x ∈ oRowSet (wL L) ↔ base L 0 ≤ (x 0).val ∧ (x 0).val < base L 0 + 2048 := by
  rw [mem_oRowSet, show (wL L).val = 2 * (L 1).val + (L 0).val from rfl]; unfold base; omega

theorem oA_subset (t : Fin k0_t1_loop.trips) : (oA L t).view.set ⊆ oRowSet (wL L) := fun x hx => by
  have ht := trip_lt t
  rw [mem_oA] at hx; rw [mem_oRow]; unfold base at *; omega
theorem oB_subset (t : Fin k0_t1_loop.trips) : (oB L t).view.set ⊆ oRowSet (wL L) \ (oA L t).view.set := fun x hx => by
  have ht := trip_lt t
  rw [Finset.mem_sdiff, mem_oA, mem_oRow]; rw [mem_oB] at hx; unfold base at *; omega

/-! ## The contents -/

variable (ft : S4096x2x128.Idx → BitVec 32) (fl : S65536.Idx → BitVec 32) (fo : S65536x2x128.Idx → BitVec 32)

/-- The result before trip `k`: the tile's rows below the trip's are gathered, the others as they were. -/
def mid (L : grid0.Coords) (k : Nat) (x : S65536x2x128.Idx) : BitVec 32 :=
  if (x 0).val < base L k then gathered ft fl x else fo x

theorem base_lt (L : grid0.Coords) (j : Fin 2048) : base L 0 + j.val < 65536 := by
  have h0 : (L 0).val < 2 := (L 0).isLt
  have h1 : (L 1).val < 16 := (L 1).isLt
  unfold base; omega

/-- Position `j` of the tile's part of the list. -/
def part (L : grid0.Coords) (x : S2048.Idx) : BitVec 32 := fl fun | 0 => ⟨base L 0 + (x 0).val, base_lt L (x 0)⟩

/-- The fetched list is the tile's part of the list. -/
theorem lK_read : (lK L).view.read (Elt F) fl = part fl L := by
  funext x
  rw [View.read_apply, cast_eq]
  show fl _ = fl _
  congr 1
  funext a
  match a with
  | 0 =>
    apply Fin.ext
    show (k0_off1 L) 0 + 1 * (x 0).val = base L 0 + (x 0).val
    rw [k0_off1_eq]; simp [base]

/-- Row `n + j` of the result. -/
def rowAt (n : Nat) (hn : n + 128 ≤ 65536) (j : S128x2x128.Idx) : S65536x2x128.Idx := fun
  | 0 => ⟨n + (j 0).val, by have : (j 0).val < 128 := (j 0).isLt; show _ < 65536; omega⟩ | 1 => j 1 | 2 => j 2

/-- The payload of a gather over 128 positions of the fetched list: the result's rows at those positions. -/
theorem payload_eq (hfl : ∀ x, (fl x).toNat < 4096) (off : Fin 1 → Nat) (h : ∀ a, off a + S128.size a ≤ S2048.size a)
    (n : Nat) (e : off = ![n]) (hb : base L 0 + n + 128 ≤ 65536)
    (hn : S128.numel = S128x2x128.size gathers_S4096x2x128_S128x2x128.axis')
    (hin : ∀ x, (((iV).slice (Rect.unit (s := S2048) off S128.size h) (fun _ => rfl)).view.read (Elt F) (part fl L) x).toNat
      < S4096x2x128.size gathers_S4096x2x128_S128x2x128.axis) (j : S128x2x128.Idx) :
    SparseCore.gatherPayload (F := F) (e := .i32) gathers_S4096x2x128_S128x2x128 ((tK).view.read (Elt F) ft)
        (SparseCore.rows (((iV).slice (Rect.unit (s := S2048) off S128.size h) (fun _ => rfl)).view.read (Elt F) (part fl L)) hn hin) j
      = gathered ft fl (rowAt (base L 0 + n) hb j) := by
  subst e
  unfold SparseCore.gatherPayload gathered
  rw [View.read_apply, cast_eq]
  show ft _ = ft _
  congr 1
  funext a
  match a with
  | 0 =>
    apply Fin.ext
    show 0 + 1 * (gathers_S4096x2x128_S128x2x128.idx _ j gathers_S4096x2x128_S128x2x128.axis).val = _
    rw [Shape.Gathers.idx_axis]
    unfold SparseCore.rows halfRow
    simp only [View.read_apply, cast_eq]
    show 0 + 1 * (part fl L _).toNat = (fl _).toNat % 4096
    rw [Nat.mod_eq_of_lt (hfl _)]
    have key : ∀ y : S128.Idx, S128.rowMajor y = Fin.cast hn.symm (j gathers_S4096x2x128_S128x2x128.axis') → (y 0).val = (j 0).val := by
      intro y hy
      have h1 := congrArg Fin.val hy
      rw [show (S128.rowMajor y).val = (y 0).val from Shape.rowMajor_val_one y] at h1
      exact h1
    have hk := key (S128.rowMajor.symm (Fin.cast hn.symm (j gathers_S4096x2x128_S128x2x128.axis'))) (Equiv.apply_symm_apply _ _)
    rw [Nat.zero_add, Nat.one_mul]
    unfold part
    congr 2
    funext a
    match a with
    | 0 =>
      apply Fin.ext
      show base L 0 + (n + 1 * (S128.rowMajor.symm (Fin.cast hn.symm (j gathers_S4096x2x128_S128x2x128.axis')) 0).val) = base L 0 + n + (j 0).val
      rw [hk]; omega
  | 1 =>
    apply Fin.ext
    show 0 + 1 * (gathers_S4096x2x128_S128x2x128.idx _ j 1).val = (j 1).val
    rw [Shape.Gathers.idx_of_ne _ _ _ _ (by decide)]
    show 0 + 1 * (j 1).val = _
    omega
  | 2 =>
    apply Fin.ext
    show 0 + 1 * (gathers_S4096x2x128_S128x2x128.idx _ j 2).val = (j 2).val
    rw [Shape.Gathers.idx_of_ne _ _ _ _ (by decide)]
    show 0 + 1 * (j 2).val = _
    omega

/-- A window of 128 rows of the result, written with the result's rows, is at the result. -/
theorem writes_rows (off : Fin 3 → Nat) (h : ∀ a, off a + S128x2x128.size a ≤ S65536x2x128.size a) (n : Nat) (e : off = ![n, 0, 0])
    (hb : n + 128 ≤ 65536) (f : S65536x2x128.Idx → BitVec 32) (w : S128x2x128.Idx → BitVec 32)
    (hw : ∀ j, w j = gathered ft fl (rowAt n hb j)) (x : S65536x2x128.Idx)
    (hx : x ∈ ((oV).slice (Rect.unit (s := S65536x2x128) off S128x2x128.size h) (fun _ => rfl)).view.set) :
    ((oV).slice (Rect.unit (s := S65536x2x128) off S128x2x128.size h) (fun _ => rfl)).view.writes (Elt F)
      f [⟨Rect.whole S128x2x128, w⟩] x = gathered ft fl x := by
  subst e
  obtain ⟨j, -, rfl⟩ := Finset.mem_map.mp hx
  have hr := View.read_writes_cons_emb (Val := Elt F)
    ((oV).slice (Rect.unit (s := S65536x2x128) ![n, 0, 0] S128x2x128.size h) (fun _ => rfl)).view f (Rect.whole S128x2x128) w [] j
  rw [show (Rect.whole S128x2x128).emb j = j from funext fun a => Fin.ext ((Nat.zero_add _).trans (Nat.one_mul _)),
    View.read_apply, cast_eq] at hr
  refine hr.trans ((hw j).trans ?_)
  congr 1
  funext a
  match a with
  | 0 => apply Fin.ext; show n + (j 0).val = n + 1 * (j 0).val; omega
  | 1 => apply Fin.ext; show (j 1).val = 0 + 1 * (j 1).val; omega
  | 2 => apply Fin.ext; show (j 2).val = 0 + 1 * (j 2).val; omega

/-- A trip's windows are what it adds; elsewhere the result stands as it was. -/
theorem mid_succ_of_lt (t : Nat) (x : S65536x2x128.Idx) (hx : (x 0).val < base L t + 256) :
    mid ft fl fo L (t + 1) x = gathered ft fl x := by
  unfold mid; rw [if_pos (by unfold base at *; omega)]
theorem mid_succ_of_rest (t : Fin k0_t1_loop.trips) (x : S65536x2x128.Idx)
    (hx : x ∈ (oRowSet (wL L) \ (oA L t).view.set) \ (oB L t).view.set) :
    mid ft fl fo L t.val x = mid ft fl fo L (t.val + 1) x := by
  rw [Finset.mem_sdiff, Finset.mem_sdiff, mem_oA, mem_oB, mem_oRow] at hx
  unfold mid
  by_cases h : (x 0).val < base L t.val
  · rw [if_pos h, if_pos (by unfold base at *; omega)]
  · rw [if_neg h, if_neg (by unfold base at *; omega)]
theorem mid_zero (x : S65536x2x128.Idx) (hx : x ∈ oRowSet (wL L)) : mid ft fl fo L 0 x = fo x := by
  rw [mem_oRow] at hx; unfold mid; rw [if_neg (by omega)]
theorem mid_eight (x : S65536x2x128.Idx) (hx : x ∈ oRowSet (wL L)) : mid ft fl fo L 8 x = gathered ft fl x := by
  rw [mem_oRow] at hx; unfold mid; rw [if_pos (by unfold base at *; omega)]

end Cert.Proof.Gather

end
-- ==== Proof.TileRun.lean ====
/-
  The tile's task run once, at a symbolic tile: the loop by an invariant that says which rows of the result are gathered.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (ft : S4096x2x128.Idx → BitVec 32) (fl : S65536.Idx → BitVec 32) (fo : S65536x2x128.Idx → BitVec 32)

/-- The tile's thread. -/
abbrev thr (d : Dev nD) (L : grid0.Coords) : Thread nD τ := V d (cV L) (jV L)

/-! ## What the tile holds of the operands -/

abbrev tPts (d : Dev nD) (w : Fin 32) : sProp 𝕄 := tLoc d ↦{rq w} (ft : Buf (Elt F) (tLoc d))
abbrev lPts (d : Dev nD) (w : Fin 32) : sProp 𝕄 := lLoc d ↦{rq w} (fl : Buf (Elt F) (lLoc d))
abbrev oPts (d : Dev nD) (w : Fin 32) (f : S65536x2x128.Idx → BitVec 32) : sProp 𝕄 := oLoc d ↦[oRowSet w]{fullShare} (f : Buf (Elt F) (oLoc d))

/-- A semaphore of the tile. -/
abbrev cell (d : Dev nD) (L : grid0.Coords) (s : DmaSems sig S_) : GSem nD τ sig := (thr d L, .dma s.sem)

/-- The five semaphores are among the tile's own. -/
theorem ownSems0_V :
    (ownSems0 (thr d L) : sProp 𝕄)
      = iprop(semVal (cell d L cc0_scoped0) 0 ∗ semVal (cell d L cc0_scratch3) 0 ∗ semVal (cell d L cc0_scratch4) 0
          ∗ semVal (cell d L cc0_scratch5) 0 ∗ semVal (cell d L cc0_scratch6) 0
          ∗ bigSep ((((((ownCells (thr d L)).erase (cell d L cc0_scoped0)).erase (cell d L cc0_scratch3)).erase (cell d L cc0_scratch4)).erase
              (cell d L cc0_scratch5)).erase (cell d L cc0_scratch6)) fun g => semVal g 0) := by
  have own : ∀ s : DmaSems sig S_, (SemLoc.dma s.sem : SemLoc sig).isScoped .scVector = true → cell d L s ∈ ownCells (thr d L) :=
    fun s hs => mem_ownCells.mpr ⟨rfl, hs⟩
  have ne : ∀ s s' : DmaSems sig S_, (SemLoc.dma s.sem : SemLoc sig) ≠ .dma s'.sem → cell d L s ≠ cell d L s' :=
    fun s s' h e => h (congrArg Prod.snd e)
  unfold SparseCore.Cfg.ownSems0
  rw [SparseCore.bigSep_erase' (own cc0_scoped0 (by decide)),
    SparseCore.bigSep_erase' (Finset.mem_erase.mpr ⟨ne cc0_scratch3 cc0_scoped0 (by decide), own cc0_scratch3 (by decide)⟩),
    SparseCore.bigSep_erase' (Finset.mem_erase.mpr ⟨ne cc0_scratch4 cc0_scratch3 (by decide), Finset.mem_erase.mpr ⟨ne cc0_scratch4 cc0_scoped0 (by decide),
      own cc0_scratch4 (by decide)⟩⟩),
    SparseCore.bigSep_erase' (Finset.mem_erase.mpr ⟨ne cc0_scratch5 cc0_scratch4 (by decide), Finset.mem_erase.mpr ⟨ne cc0_scratch5 cc0_scratch3 (by decide),
      Finset.mem_erase.mpr ⟨ne cc0_scratch5 cc0_scoped0 (by decide), own cc0_scratch5 (by decide)⟩⟩⟩),
    SparseCore.bigSep_erase' (Finset.mem_erase.mpr ⟨ne cc0_scratch6 cc0_scratch5 (by decide), Finset.mem_erase.mpr ⟨ne cc0_scratch6 cc0_scratch4 (by decide),
      Finset.mem_erase.mpr ⟨ne cc0_scratch6 cc0_scratch3 (by decide), Finset.mem_erase.mpr ⟨ne cc0_scratch6 cc0_scoped0 (by decide),
        own cc0_scratch6 (by decide)⟩⟩⟩⟩)]

/-- A buffer of the tile. -/
abbrev bufRef (L : grid0.Coords) (b : Ref sig .scVector) : DevRef τ sig := (Proc.scVector (cV L) (jV L)).devRef b

/-- The three scratch buffers are among the tile's own, at some contents. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (bufRef L cc0_scratch0)).erase (bufRef L cc0_scratch1)).erase (bufRef L cc0_scratch2))
              fun b => iprop(∃ f, ((d, b) : Loc nD τ sig) ↦{fullShare} f)) := by
  have ne : ∀ b b' : Ref sig .scVector, b ≠ b' → bufRef L b ≠ bufRef L b' := fun b b' h e => h (Proc.devRef_injective _ e)
  unfold SparseCore.Cfg.ownBufs
  refine (SparseCore.bigSep_erase' (SparseCore.Cfg.mem_ownRefs_of_owner (p := Proc.scVector (cV L) (jV L)) (b := bufRef L cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := bufRef L cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := bufRef L cc0_scratch2) rfl⟩⟩)]

variable [FloatOps F]

/-- Before trip `k`: the operands read, the list fetched, the row buffers at anything, the result gathered below the trip's
    rows, the trip's semaphores at zero. -/
def inv (O : CellTallies nD τ sig (HIx 1)) (W : Waits sig (HIx 1)) (k : Nat) (_ : PUnit) : sProp 𝕄 :=
  iprop(Transfers.MayWaits (thr d L) (default : HIx 1) O
    ∗ ((tV).view.loc (thr d L) ↦{rq (wL L)} (ft : Buf (Elt F) (tLoc d)))
    ∗ ((iV).view.loc (thr d L) ↦{fullShare} (part fl L))
    ∗ (∃ f, (aV).view.loc (thr d L) ↦{fullShare} f)
    ∗ (∃ f, (bV).view.loc (thr d L) ↦{fullShare} f)
    ∗ oPts d (wL L) (mid ft fl fo L k)
    ∗ semVal (cell d L cc0_scratch3) 0 ∗ semVal (cell d L cc0_scratch4) 0 ∗ semVal (cell d L cc0_scratch5) 0 ∗ semVal (cell d L cc0_scratch6) 0
    ∗ ∃ W', ⌜∀ p ∈ W', p ∈ W ∨ p.2 = none⌝ ∗ owes (thr d L) O W')

/-- One trip keeps the invariant. -/
theorem trip (hfl : ∀ x, (fl x).toNat < 4096) (O : CellTallies nD τ sig (HIx 1)) (W : Waits sig (HIx 1)) (t : Fin k0_t1_loop.trips) (v2 : BitVec 32) :
    inv (F := F) d L ft fl fo O W t.val ⟨⟩
      ⊢ wp frame (wpE (defs₀ (F := F)) 𝒱₀ (thr d L) none) Set.univ
          (k0_t1_body L tV (Memref.isWhole_whole _) lV (Memref.isWhole_whole _) oV (Memref.isWhole_whole _)
            iV (Memref.isWhole_whole _) aV (Memref.isWhole_whole _) bV (Memref.isWhole_whole _)
            cc0_scratch3 cc0_scratch4 cc0_scratch5 cc0_scratch6 cc0_scoped0 v2 t ())
          fun _ => inv (F := F) d L ft fl fo O W (t.val + 1) ⟨⟩ := by
  have hinA : ∀ x, ((iA t).view.read (Elt F) (part fl L) x).toNat < S4096x2x128.size gathers_S4096x2x128_S128x2x128.axis := fun x => by
    rw [View.read_apply, cast_eq]; exact hfl _
  have hinB : ∀ x, ((iB t).view.read (Elt F) (part fl L) x).toNat < S4096x2x128.size gathers_S4096x2x128_S128x2x128.axis := fun x => by
    rw [View.read_apply, cast_eq]; exact hfl _
  have ht := trip_lt t
  have h0 : (L 0).val < 2 := (L 0).isLt
  have h1 : (L 1).val < 16 := (L 1).isLt
  have hbA : base L 0 + 256 * t.val + 128 ≤ 65536 := by unfold base; omega
  have hbB : base L 0 + (256 * t.val + 128) + 128 ≤ 65536 := by unfold base; omega
  unfold k0_t1_body
  simp only [k0_part1_eq_skeleton]
  unfold k0_part1_skel inv
  iintro ⟨#Hmw, Ht, Hi, ⟨%fa, Ha⟩, ⟨%fb, Hb⟩, Ho, HsA, HsB, HsC, HsD, %W', %hW', HO⟩
  -- the table's share and the list in two halves, each gather's part of them beside its rest
  ihave Ht2 := (pointsTo_share (PosShare.mem_left_op_right (rq (wL L)))).1 $$ Ht
  icases Ht2 with ⟨Ht1, Ht2⟩
  ihave Hi2 := (pointsTo_share (PosShare.mem_left_op_right fullShare)).1 $$ Hi
  icases Hi2 with ⟨Hi1, Hi2⟩
  ihave Hx := (pointsTo_split_subset (Finset.subset_univ (tK).view.set)).1 $$ Ht1
  icases Hx with ⟨Ht1, Ht1r⟩
  ihave Hx := (pointsTo_split_subset (Finset.subset_univ (tK).view.set)).1 $$ Ht2
  icases Hx with ⟨Ht2, Ht2r⟩
  ihave Hx := (pointsTo_split_subset (Finset.subset_univ (iA t).view.set)).1 $$ Hi1
  icases Hx with ⟨Hi1, Hi1r⟩
  ihave Hx := (pointsTo_split_subset (Finset.subset_univ (iB t).view.set)).1 $$ Hi2
  icases Hx with ⟨Hi2, Hi2r⟩
  -- the trip's two windows of the result
  ihave Hx := (pointsTo_split_subset (oA_subset L t)).1 $$ Ho
  icases Hx with ⟨HoA, Ho⟩
  ihave Hx := (pointsTo_split_subset (oB_subset L t)).1 $$ Ho
  icases Hx with ⟨HoB, Ho⟩
  have has : (aV).view.set = Finset.univ := View.set_whole _
  have hbs : (bV).view.set = Finset.univ := View.set_whole _
  ihave Ha := (Entails.of_eq (show ((aV).view.loc (thr d L) ↦{fullShare} fa : sProp 𝕄) = (aV).view.loc (thr d L) ↦[(aV).view.set]{fullShare} fa by rw [has])) $$ Ha
  ihave Hb := (Entails.of_eq (show ((bV).view.loc (thr d L) ↦{fullShare} fb : sProp 𝕄) = (bV).view.loc (thr d L) ↦[(bV).view.set]{fullShare} fb by rw [hbs])) $$ Hb
  sl_exec
  -- the first gather
  iapply (SparseCore.wp_indirectGatherLocal countersEmb 𝒱₀ (thr d L) none (hg := gathers_S4096x2x128_S128x2x128) (default : HIx 1)
      (aV).view.dmaCredit (SparseCore.sum_rowCredit_eq_dmaCredit _ _ fun _ => rfl) (by decide) hinA) $$ [Ht1 Ha Hi1 HsA]
  · isplitl [Ht1]; · iexact Ht1
    isplitl [Ha]; · iexact Ha
    isplitl [Hi1]; · iexact Hi1
    iexact HsA
  iintro HflA
  sl_exec
  -- the second gather, the first still in flight
  iapply (SparseCore.wp_indirectGatherLocal countersEmb 𝒱₀ (thr d L) none (hg := gathers_S4096x2x128_S128x2x128) (default : HIx 1)
      (bV).view.dmaCredit (SparseCore.sum_rowCredit_eq_dmaCredit _ _ fun _ => rfl) (by decide) hinB) $$ [Ht2 Hb Hi2 HsB]
  · isplitl [Ht2]; · iexact Ht2
    isplitl [Hb]; · iexact Hb
    isplitl [Hi2]; · iexact Hi2
    iexact HsB
  iintro HflB
  sl_exec
  -- the first gather's wait
  iapply (Transfers.wp_waitLocalO countersEmb 𝒱₀ (thr d L) none (default : HIx 1) (rfl : (aV).view.dmaCredit = _)) $$ [HflA HO]
  · isplitl [HflA]; · iexact HflA
    isplitl [HO]; · iexact HO
    iapply (Transfers.MayWaits.elim (SemLoc.dma cc0_scratch3.sem)) $$ Hmw
  iintro ⟨⟨Ha, Ht1, Hi1⟩, HsA, HO⟩
  ihave Ha := (Entails.of_eq (show ((aV).view.loc (thr d L) ↦[(aV).view.set]{fullShare} _ : sProp 𝕄)
      = (aV).view.loc (thr d L) ↦{fullShare} (fun j => gathered ft fl (rowAt (base L 0 + 256 * t.val) hbA j)) by
    rw [has, View.write_whole_univ]; congr 1; funext j; exact payload_eq L ft fl hfl _ _ _ (k0_off2_eq t) hbA _ hinA j)) $$ Ha
  ihave HoA := (Entails.of_eq (show (oLoc d ↦[(oA L t).view.set]{fullShare} _ : sProp 𝕄) = (oA L t).view.loc (thr d L) ↦[(oA L t).view.set]{fullShare} _ from rfl)) $$ HoA
  sl_exec
  -- the second gather's wait
  iapply (Transfers.wp_waitLocalO countersEmb 𝒱₀ (thr d L) none (default : HIx 1) (rfl : (bV).view.dmaCredit = _)) $$ [HflB HO]
  · isplitl [HflB]; · iexact HflB
    isplitl [HO]; · iexact HO
    iapply (Transfers.MayWaits.elim (SemLoc.dma cc0_scratch4.sem)) $$ Hmw
  iintro ⟨⟨Hb, Ht2, Hi2⟩, HsB, HO⟩
  ihave Hb := (Entails.of_eq (show ((bV).view.loc (thr d L) ↦[(bV).view.set]{fullShare} _ : sProp 𝕄)
      = (bV).view.loc (thr d L) ↦{fullShare} (fun j => gathered ft fl (rowAt (base L 0 + (256 * t.val + 128)) hbB j)) by
    rw [hbs, View.write_whole_univ]; congr 1; funext j; exact payload_eq L ft fl hfl _ _ _ (k0_off3_eq t) hbB _ hinB j)) $$ Hb
  ihave HoB := (Entails.of_eq (show (oLoc d ↦[(oB L t).view.set]{fullShare} _ : sProp 𝕄) = (oB L t).view.loc (thr d L) ↦[(oB L t).view.set]{fullShare} _ from rfl)) $$ HoB
  sl_exec
  -- the result's rows below the next trip's are gathered
  have hA : ∀ x ∈ (oA L t).view.set, (oA L t).view.writes (Elt F) (mid ft fl fo L t.val)
      [⟨Rect.whole S128x2x128, trip.sl.dma0 (F := F) d L ft fl t hbA⟩] x = mid ft fl fo L (t.val + 1) x := fun x hx => by
    rw [mid_succ_of_lt _ _ _ _ _ _ (by rw [mem_oA] at hx; omega)]
    exact writes_rows ft fl _ _ (base L t.val) (k0_off4_eq L t) (by unfold base at *; omega) _ _ (fun j => by
      unfold trip.sl.dma0
      show gathered ft fl _ = gathered ft fl _
      congr 2) x hx
  have hB : ∀ x ∈ (oB L t).view.set, (oB L t).view.writes (Elt F) (mid ft fl fo L t.val)
      [⟨Rect.whole S128x2x128, trip.sl.dma0_1 (F := F) d L ft fl t hbB⟩] x = mid ft fl fo L (t.val + 1) x := fun x hx => by
    rw [mid_succ_of_lt _ _ _ _ _ _ (by rw [mem_oB] at hx; omega)]
    exact writes_rows ft fl _ _ (base L t.val + 128) (k0_off5_eq L t) (by unfold base at *; omega) _ _ (fun j => by
      unfold trip.sl.dma0_1
      show gathered ft fl _ = gathered ft fl _
      congr 2) x hx
  ihave HoA := (Entails.of_eq (pointsTo_congr hA)) $$ HoA
  ihave HoB := (Entails.of_eq (pointsTo_congr hB)) $$ HoB
  ihave Ho := (Entails.of_eq (pointsTo_congr (mid_succ_of_rest L ft fl fo t))) $$ Ho
  ihave Ho := (show iprop((oLoc d ↦[(oB L t).view.set]{fullShare} _) ∗ oLoc d ↦[_]{fullShare} _)
      ⊢ (oLoc d ↦[oRowSet (wL L) \ (oA L t).view.set]{fullShare} mid ft fl fo L (t.val + 1) : sProp 𝕄) from (pointsTo_split_subset (oB_subset L t)).2) $$ [HoB Ho]
  · isplitl [HoB]; · iexact HoB
    iexact Ho
  ihave Ho := (show iprop((oLoc d ↦[(oA L t).view.set]{fullShare} _) ∗ oLoc d ↦[_]{fullShare} _)
      ⊢ (oLoc d ↦[oRowSet (wL L)]{fullShare} mid ft fl fo L (t.val + 1) : sProp 𝕄) from (pointsTo_split_subset (oA_subset L t)).2) $$ [HoA Ho]
  · isplitl [HoA]; · iexact HoA
    iexact Ho
  -- the table's share and the list whole again
  have jT : ∀ q : PosShare TreeShare, iprop(((tV).view.loc (thr d L) ↦[(tK).view.set]{q} (ft : Buf (Elt F) (tLoc d))) ∗ (tV).view.loc (thr d L) ↦[Finset.univ \ (tK).view.set]{q} ft)
      ⊢ ((tV).view.loc (thr d L) ↦{q} ft : sProp 𝕄) := fun q => (pointsTo_split_subset (Finset.subset_univ _)).2
  have jI : ∀ (q : PosShare TreeShare) (S : Finset S2048.Idx), iprop(((iV).view.loc (thr d L) ↦[S]{q} part fl L) ∗ (iV).view.loc (thr d L) ↦[Finset.univ \ S]{q} part fl L)
      ⊢ ((iV).view.loc (thr d L) ↦{q} part fl L : sProp 𝕄) := fun q S => (pointsTo_split_subset (Finset.subset_univ S)).2
  ihave Ht1 := (jT _) $$ [Ht1 Ht1r]
  · isplitl [Ht1]; · iexact Ht1
    iexact Ht1r
  ihave Ht2 := (jT _) $$ [Ht2 Ht2r]
  · isplitl [Ht2]; · iexact Ht2
    iexact Ht2r
  ihave Ht := (pointsTo_share (PosShare.mem_left_op_right (rq (wL L)))).2 $$ [Ht1 Ht2]
  · isplitl [Ht1]; · iexact Ht1
    iexact Ht2
  ihave Hi1 := (jI _ (iA t).view.set) $$ [Hi1 Hi1r]
  · isplitl [Hi1]; · iexact Hi1
    iexact Hi1r
  ihave Hi2 := (jI _ (iB t).view.set) $$ [Hi2 Hi2r]
  · isplitl [Hi2]; · iexact Hi2
    iexact Hi2r
  ihave Hi := (pointsTo_share (PosShare.mem_left_op_right fullShare)).2 $$ [Hi1 Hi2]
  · isplitl [Hi1]; · iexact Hi1
    iexact Hi2
  rw [wp_ret]; imodintro
  isplitr; · iexact Hmw
  isplitl [Ht]; · iexact Ht
  isplitl [Hi]; · iexact Hi
  isplitl [Ha]; · iexists _; iexact Ha
  isplitl [Hb]; · iexists _; iexact Hb
  isplitl [Ho]; · iexact Ho
  isplitl [HsA]; · iexact HsA
  isplitl [HsB]; · iexact HsB
  isplitl [HsC]; · iexact HsC
  isplitl [HsD]; · iexact HsD
  iexists _
  isplitr
  rotate_left
  · iexact HO
  · ipureintro
    intro p hp
    simp only [Finset.mem_insert] at hp
    rcases hp with rfl | rfl | rfl | rfl | hp
    · exact .inr rfl
    · exact .inr rfl
    · exact .inr rfl
    · exact .inr rfl
    · exact hW' p hp

/-- The task on a tile: its part of the list fetched, the trips run; its rows of the result are gathered. -/
theorem tile_body (hF : (K (F := F)).Facts) (hfl : ∀ x, (fl x).toNat < 4096) (O : CellTallies nD τ sig (HIx 1)) (W : Waits sig (HIx 1)) (hO : ∀ g, O g none = 0) :
    iprop(levAts (K (F := F)).L (K (F := F)).lev ∗ emp
        ∗ (tPts ft d (wL L) ∗ lPts fl d (wL L) ∗ oPts d (wL L) fo)
        ∗ scopedBufs (thr d L) ∗ scopedSems0 (thr d L) ∗ owes (thr d L) O W)
      ⊢ wp frame (wpE (defs₀ (F := F)) 𝒱₀ (thr d L) none) Set.univ
          (cc0_k L tV (Memref.isWhole_whole _) lV (Memref.isWhole_whole _) oV (Memref.isWhole_whole _)
            iV (Memref.isWhole_whole _) aV (Memref.isWhole_whole _) bV (Memref.isWhole_whole _)
            cc0_scratch3 cc0_scratch4 cc0_scratch5 cc0_scratch6 cc0_scoped0)
          fun _ => iprop((tPts ft d (wL L) ∗ lPts fl d (wL L) ∗ oPts d (wL L) (gathered ft fl))
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hl, Ho⟩, ⟨⟨%fi, Hi⟩, ⟨%fa, Ha⟩, ⟨%fb, Hb⟩, Hbufs⟩, ⟨HsE, HsA, HsB, HsC, HsD, Hsems⟩, HO⟩
  ihave #Hmw := (show levAts (K (F := F)).L (K (F := F)).lev ⊢ Transfers.MayWaits (thr d L) (default : HIx 1) O from
    (K (F := F)).mayWaits_none (thr := thr d L) hO) $$ Hlv
  ihave Hl := (Entails.of_eq (show (lLoc d ↦{rq (wL L)} _ : sProp 𝕄) = (lV).view.loc (thr d L) ↦{rq (wL L)} _ from rfl)) $$ Hl
  ihave Hi := (Entails.of_eq (show ((thr d L).loc cc0_scratch0 ↦{fullShare} _ : sProp 𝕄) = (iV).view.loc (thr d L) ↦{fullShare} _ from rfl)) $$ Hi
  sl_exec
  -- the fetched list is the tile's part
  ihave Hi := (Entails.of_eq (show ((iV).view.loc (thr d L) ↦{fullShare} _ : sProp 𝕄) = (iV).view.loc (thr d L) ↦{fullShare} part fl L by
    rw [View.write_whole_univ]; unfold tile_body.sl.dma0; exact congrArg _ (lK_read L fl))) $$ Hi
  ihave Ho := (Entails.of_eq (pointsTo_congr fun x hx => (mid_zero L ft fl fo x hx).symm)) $$ Ho
  sl_for (inv d L ft fl fo O W) $$ [Ht Hi Ha Hb Ho HsA HsB HsC HsD HO]
  case region =>
    intro k _
    exact trip d L ft fl fo hfl O W k _
  · unfold inv
    isplitr; · iexact Hmw
    isplitl [Ht]; · iexact Ht
    isplitl [Hi]; · iexact Hi
    isplitl [Ha]; · iexists _; iexact Ha
    isplitl [Hb]; · iexists _; iexact Hb
    isplitl [Ho]; · iexact Ho
    isplitl [HsA]; · iexact HsA
    isplitl [HsB]; · iexact HsB
    isplitl [HsC]; · iexact HsC
    isplitl [HsD]; · iexact HsD
    iexists _
    isplitr
    rotate_left
    · iexact HO
    · ipureintro
      intro p hp
      rcases Finset.mem_insert.mp hp with hp | hp
      · exact .inr (hp ▸ rfl)
      · exact .inl hp
  iintro %_ HI; unfold inv
  icases HI with ⟨-, Ht, Hi, Ha, Hb, Ho, HsA, HsB, HsC, HsD, %W', %hW', HO⟩
  ihave Ho := (Entails.of_eq (show (oPts d (wL L) (mid ft fl fo L k0_t1_loop.trips) : sProp 𝕄) = oPts d (wL L) (gathered ft fl) from
    pointsTo_congr fun x hx => mid_eight L ft fl fo x hx)) $$ Ho
  sl_exec
  rw [wp_ret]; imodintro
  isplitl [Ht Hl Ho]
  · isplitl [Ht]; · iexact Ht
    isplitl [Hl]; · iexact Hl
    iexact Ho
  isplitl [Hi Ha Hb Hbufs]
  · isplitl [Hi]; · iexists _; iexact Hi
    isplitl [Ha]; · iexact Ha
    isplitl [Hb]; · iexact Hb
    iexact Hbufs
  isplitl [HsE HsA HsB HsC HsD Hsems]
  · isplitl [HsE]; · iexact HsE
    isplitl [HsA]; · iexact HsA
    isplitl [HsB]; · iexact HsB
    isplitl [HsC]; · iexact HsC
    isplitl [HsD]; · iexact HsD
    iexact Hsems
  iexists W'
  isplitr
  · ipureintro; exact hW'
  · iexact HO

end Cert.Proof.Gather

end
-- ==== Proof.Launch.lean ====
/-
  The launch: the host operations before the call, the call over the 32 tiles, the reshape after it.
-/
module

public import proofs.«01_k».proof.Proof.TileRun
public import Idealize.ShloMosaic.Lib.SparseCore.Quiescent
public import Idealize.ShloMosaic.Lib.StableHlo.Run
public import Idealize.ShloMosaic.Lib.Pipeline.Kit
public import Idealize.ShloMosaic.Lib.Pipeline.Frame

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq seqK after wp_seq wp_hlo_within held_sub_split held_congr)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The host operations around the call -/

/-- The operations before the call, in order: each row index to the two indices of its half rows, and the table as half
    rows. -/
abbrev before : List (HloOp τ sig (Elt F)) :=
  [StableHlo.unary main_arg1 main_v0 (broadcastInDim S32768x1 ![0] bcast_S32768_S32768x1_0),
    StableHlo.nullary main_c (constantI S_ 32 2#32),
    StableHlo.unary main_c main_v1 (broadcastInDim S32768x1 ![] bcast_S_S32768x1),
    StableHlo.binary main_v1 main_v0 main_v2 muli,
    StableHlo.nullary main_v3 (iotaInDim S2 32 0),
    StableHlo.unary main_v3 main_v4 (broadcastInDim S1x2 ![1] bcast_S2_S1x2_1),
    StableHlo.unary main_v2 main_v5 (broadcastInDim S32768x2 ![0, 1] bcast_S32768x1_S32768x2_0_1),
    StableHlo.unary main_v4 main_v6 (broadcastInDim S32768x2 ![0, 1] bcast_S1x2_S32768x2_0_1),
    StableHlo.binary main_v5 main_v6 main_v7 addi,
    StableHlo.reshape main_v7 main_v8 (rfl : (.i32 : EltTy) = .i32) shapeCasts_S32768x2_S65536,
    StableHlo.reshape main_arg0 main_v9 (rfl : (.i32 : EltTy) = .i32) shapeCasts_S2048x512_S4096x2x128]
/-- The operation after it. -/
abbrev opOut : HloOp τ sig (Elt F) :=
  StableHlo.reshape main_v10 main_v11 (rfl : (.i32 : EltTy) = .i32) shapeCasts_S65536x2x128_S32768x512

/-- The arrays at launch, before the call, after it, and at the end. -/
def V0 (d : Dev nD) : Valuation τ sig (Elt F) := fun b => m (d, b)
def V1 (d : Dev nD) : Valuation τ sig (Elt F) := after before (V0 m d)
abbrev ft (d : Dev nD) : S4096x2x128.Idx → BitVec 32 := V1 m d (Proc.devRef .tc main_v9)
abbrev fl (d : Dev nD) : S65536.Idx → BitVec 32 := V1 m d (Proc.devRef .tc main_v8)
abbrev fo (d : Dev nD) : S65536x2x128.Idx → BitVec 32 := V1 m d (Proc.devRef .tc main_v10)
abbrev fg (d : Dev nD) : S65536x2x128.Idx → BitVec 32 := gathered (ft m d) (fl m d)
def V2 (d : Dev nD) : Valuation τ sig (Elt F) := Function.update (V1 m d) (Proc.devRef .tc main_v10) (fg m d)
def V3 (d : Dev nD) : Valuation τ sig (Elt F) := (opOut (F := F)).result (V2 m d)

theorem main_eq (d : Dev nD) :
    main (F := F) d = seq before >>= fun _ =>
      (sc.run d 0 >>= fun _ => (hlo rfl (opOut (F := F)) fun _ => .ret (⟨⟩ : PUnit)) >>= fun _ => pure ⟨⟩) := by
  rw [StableHlo.seq_bind_seqK]; rfl

/-! ## What the launch hands each tile -/

/-- The operands split over the tiles: a share of the table and of the list, the tile's rows of the result. -/
abbrev tileIn (d : Dev nD) (w : Fin 32) (f : S65536x2x128.Idx → BitVec 32) : sProp 𝕄 :=
  iprop(tPts (ft m d) d w ∗ lPts (fl m d) d w ∗ oPts d w f)

/-- The call's start hands SparseCore `c` its tiles' operands, each tile takes its own; the ends bring them back, the
    result's rows gathered. -/
def P : (K (F := F)).Pay (nD := nD) (Val := Elt F) (Name := ℕ) (U := UU) where
  st := fun q d c => match q with
    | 0 => bigSep Finset.univ fun i : Fin ((K (F := F)).nSub 0) => tileIn m d (wid (Fin.cast nCore_zero c) (Fin.cast nSub_zero i)) (fo m d)
  dn := fun q d c => match q with
    | 0 => bigSep Finset.univ fun i : Fin ((K (F := F)).nSub 0) => tileIn m d (wid (Fin.cast nCore_zero c) (Fin.cast nSub_zero i)) (fg m d)
  go := fun q d c i => match q with
    | 0 => tileIn m d (wid (Fin.cast nCore_zero c) (Fin.cast nSub_zero i)) (fo m d)
  td := fun q d c i => match q with
    | 0 => tileIn m d (wid (Fin.cast nCore_zero c) (Fin.cast nSub_zero i)) (fg m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) =>
        tileIn m d (wid (Fin.cast nCore_zero c) (Fin.cast nSub_zero i)) (fo m d)))
  dn q d c := match q with
    | 0 => (inferInstance : BI.Storable (upEmb : UEmb _ 𝕄) (bigSep Finset.univ fun i : Fin ((K (F := F)).nSub 0) =>
        tileIn m d (wid (Fin.cast nCore_zero c) (Fin.cast nSub_zero i)) (fg m d)))
  go q d c i := match q with
    | 0 => (inferInstance : BI.Storable (upEmb : UEmb _ 𝕄) (tileIn m d (wid (Fin.cast nCore_zero c) (Fin.cast nSub_zero i)) (fo m d)))
  td q d c i := match q with
    | 0 => (inferInstance : BI.Storable (upEmb : UEmb _ 𝕄) (tileIn m d (wid (Fin.cast nCore_zero c) (Fin.cast nSub_zero i)) (fg m d)))

/-- What the proof asks of the launch memory: the list's words name half rows of the table. -/
def PreOK : Prop := ∀ (d : Dev nD) (x : S65536.Idx), (fl m d x).toNat < 4096

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tV (Memref.isWhole_whole _) lV (Memref.isWhole_whole _) oV (Memref.isWhole_whole _)
          iV (Memref.isWhole_whole _) aV (Memref.isWhole_whole _) bV (Memref.isWhole_whole _)
          cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (ft m d) (fl m d) (fo m d) hF (hpre d) O W hO).trans (wp_mono frame _ _ fun _ => obl_post)

theorem vecSplit : (K (F := F)).VecSplit' (P m) 0 := by
  intro d c
  show (bigSep Finset.univ fun i : Fin ((K (F := F)).nSub 0) => tileIn m d (wid (Fin.cast nCore_zero c) (Fin.cast nSub_zero i)) (fo m d))
    ⊢ |={Set.univ}=> iprop((bigSep Finset.univ fun i : Fin ((K (F := F)).nSub 0) => tileIn m d (wid (Fin.cast nCore_zero c) (Fin.cast nSub_zero i)) (fo m d))
      ∗ ((bigSep Finset.univ fun i : Fin ((K (F := F)).nSub 0) => tileIn m d (wid (Fin.cast nCore_zero c) (Fin.cast nSub_zero i)) (fg m d))
        -∗ bigSep Finset.univ fun i : Fin ((K (F := F)).nSub 0) => tileIn m d (wid (Fin.cast nCore_zero c) (Fin.cast nSub_zero i)) (fg m d)))
  iintro H; imodintro
  isplitl [H]; · iexact H
  iintro H; iexact H

/-! ## The operands over the 32 tiles -/

/-- The tiles by SparseCore and subcore. -/
def tiles : Fin ((K (F := F)).nCore 0) × Fin ((K (F := F)).nSub 0) ≃ Fin 32 where
  toFun p := wid (Fin.cast nCore_zero p.1) (Fin.cast nSub_zero p.2)
  invFun w := (Fin.cast nCore_zero.symm ⟨w.val % 2, Nat.mod_lt _ (by decide)⟩, Fin.cast nSub_zero.symm ⟨w.val / 2, by have := w.isLt; omega⟩)
  left_inv p := by
    have h : p.1.val < 2 := p.1.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

omit [FloatOps F] in
theorem orows_disjoint : ∀ i ∈ (Finset.univ : Finset (Fin 32)), ∀ j ∈ (Finset.univ : Finset (Fin 32)), i ≠ j → Disjoint (oRowSet i) (oRowSet j) :=
  fun _ _ _ _ h => Rect.part_disjoint odiv h

omit [FloatOps F] in
theorem orows (d : Dev nD) (f : S65536x2x128.Idx → BitVec 32) :
    (oLoc d ↦{fullShare} (f : Buf (Elt F) (oLoc d)) : sProp 𝕄) = bigSep Finset.univ fun w : Fin 32 => oPts d w f := by
  rw [← pointsTo_biUnion Finset.univ (ℓ := oLoc d) oRowSet orows_disjoint, Rect.biUnion_part odiv]; try rfl

/-- The three arrays whole are the tiles' operands, -/
theorem tiles_eq (d : Dev nD) (f : S65536x2x128.Idx → BitVec 32) :
    (iprop((tLoc d ↦{fullShare} (ft m d : Buf (Elt F) (tLoc d))) ∗ (lLoc d ↦{fullShare} (fl m d : Buf (Elt F) (lLoc d)))
        ∗ oLoc d ↦{fullShare} (f : Buf (Elt F) (oLoc d))) : sProp 𝕄)
      = bigSep Finset.univ fun c : Fin ((K (F := F)).nCore 0) => bigSep Finset.univ fun i : Fin ((K (F := F)).nSub 0) =>
          tileIn m d (wid (Fin.cast nCore_zero c) (Fin.cast nSub_zero i)) f := by
  rw [orows, pointsTo_piecesOf _ _ (show 0 < 32 by decide) fullShare (ℓ := tLoc d), pointsTo_piecesOf _ _ (show 0 < 32 by decide) fullShare (ℓ := lLoc d),
    ← bigSep_sep', ← bigSep_sep']
  exact (bigSep_univ_equiv (tiles (F := F)) fun w => tileIn m d w f).trans (bigSep_univ_prod _)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The TensorCore's arrays, and the call's three among them. -/
abbrev SA : Finset (DevRef τ sig) := Pipeline.ucRefs τ sig
abbrev SC3 : Finset (DevRef τ sig) := {Proc.devRef .tc main_v9, Proc.devRef .tc main_v8, Proc.devRef .tc main_v10}

omit [FloatOps F] in
theorem mem_SA (r : Ref sig .tc) (h : (Proc.devRef (τ := τ) .tc r).isScoped = false) : Proc.devRef .tc r ∈ SA :=
  Finset.mem_filter.mpr ⟨StableHlo.devRef_mem_tcRefs r, by rw [h]; exact Bool.false_ne_true⟩
omit [FloatOps F] in
theorem SC3_sub : SC3 ⊆ SA := by
  simp only [SC3, Finset.insert_subset_iff, Finset.singleton_subset_iff]
  exact ⟨mem_SA _ rfl, mem_SA _ rfl, mem_SA _ rfl⟩

omit [FloatOps F] in
theorem held_SC3 (d : Dev nD) (W : Valuation τ sig (Elt F)) :
    (held (T d) SC3 W : sProp 𝕄) = iprop((tLoc d ↦{fullShare} W (Proc.devRef .tc main_v9)) ∗ (lLoc d ↦{fullShare} W (Proc.devRef .tc main_v8))
      ∗ oLoc d ↦{fullShare} W (Proc.devRef .tc main_v10)) := by
  unfold held SC3
  rw [SparseCore.bigSep_insert' (by decide), SparseCore.bigSep_insert' (by decide), bigSep_singleton]

theorem before_bufs : ∀ op ∈ (before (F := F)), op.bufs ⊆ SA := by
  intro op hop
  simp only [before, List.mem_cons, List.not_mem_nil, or_false] at hop
  rcases hop with rfl | rfl | rfl | rfl | rfl | rfl | rfl | rfl | rfl | rfl | rfl <;>
    simp only [StableHlo.nullary_bufs, StableHlo.unary_bufs, StableHlo.binary_bufs, StableHlo.reshape_bufs, Finset.insert_subset_iff,
      Finset.singleton_subset_iff] <;> (try and_intros) <;> exact mem_SA _ rfl

theorem before_fresh : ∀ op ∈ (before (F := F)), op.fresh = ∅ := by
  intro op hop
  simp only [before, List.mem_cons, List.not_mem_nil, or_false] at hop
  rcases hop with rfl | rfl | rfl | rfl | rfl | rfl | rfl | rfl | rfl | rfl | rfl <;> rfl

theorem opOut_bufs : (opOut (F := F)).bufs ⊆ SA := by
  simp only [StableHlo.reshape_bufs, Finset.insert_subset_iff, Finset.singleton_subset_iff]
  exact ⟨mem_SA _ rfl, mem_SA _ rfl⟩

/-- The call's three arrays whole among the others, which it leaves. -/
theorem held_V2 (d : Dev nD) :
    (held (T d) SA (V2 m d) : sProp 𝕄)
      = iprop(iprop((tLoc d ↦{fullShare} (ft m d : Buf (Elt F) (tLoc d))) ∗ (lLoc d ↦{fullShare} (fl m d : Buf (Elt F) (lLoc d)))
        ∗ oLoc d ↦{fullShare} (fg m d : Buf (Elt F) (oLoc d))) ∗ held (T d) (SA \ SC3) (V1 m d)) := by
  rw [held_sub_split (T d) SC3_sub, held_SC3]
  unfold V2
  rw [Function.update_of_ne (StableHlo.devRef_ne_of_ne (by decide)), Function.update_of_ne (StableHlo.devRef_ne_of_ne (by decide)), Function.update_self,
    held_congr (T d) (S := SA \ SC3) (V' := V1 m d) fun b hb => Function.update_of_ne (fun e => (Finset.mem_sdiff.mp hb).2 (by rw [e]; simp [SC3])) _ _]

/-- The arrays that a claim reads at the end, among the others. -/
abbrev SF : Finset (DevRef τ sig) := {Proc.devRef .tc main_arg0, Proc.devRef .tc main_arg1, Proc.devRef .tc main_v11}
omit [FloatOps F] in
theorem SF_sub : SF ⊆ SA := by
  simp only [SF, Finset.insert_subset_iff, Finset.singleton_subset_iff]
  exact ⟨mem_SA _ rfl, mem_SA _ rfl, mem_SA _ rfl⟩

abbrev FIN (d : Dev nD) : sProp 𝕄 := held (T d) SF (V3 m d)

/-- @main on a device's TensorCore: the operations before the call, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) SA (V0 m d) from Pipeline.unscopedBufs_held d (V0 m d), main_eq]
  iintro ⟨#Hctx, Hst, ⟨Hb, Hheld, Hts, -⟩, -⟩
  iapply (wp_seq 𝒱 none Set.univ d SA _ before before_bufs before_fresh (V0 m d)) $$ [Hb Hheld]
  · isplitl [Hb] <;> iassumption
  iintro ⟨Hb, Hheld⟩
  ihave Hh := (Entails.of_eq (show (held (T d) SA (after before (V0 m d)) : sProp 𝕄)
      = iprop(iprop((tLoc d ↦{fullShare} (ft m d : Buf (Elt F) (tLoc d))) ∗ (lLoc d ↦{fullShare} (fl m d : Buf (Elt F) (lLoc d)))
        ∗ oLoc d ↦{fullShare} (fo m d : Buf (Elt F) (oLoc d))) ∗ held (T d) (SA \ SC3) (V1 m d)) by
    rw [held_sub_split (T d) SC3_sub, held_SC3]; rfl)) $$ Hheld
  icases Hh with ⟨H3, Hrest⟩
  simp only [wp_bind, wp_pure]
  iapply ((K (F := F)).wp_run (D (F := F)) 𝒱 (EH := EH) (P := P m) κ d 0) $$ [Hst H3 Hb Hrest Hts]
  isplitr; · iexact Hctx
  isplitl [Hst]; · iexact Hst
  isplitl [H3]
  · iapply (Entails.of_eq (tiles_eq m d (fo m d))); iexact H3
  iintro ⟨Hst, Hdn⟩
  ihave H3 := (show (bigSep Finset.univ fun c : Fin ((K (F := F)).nCore 0) => (P m).dn 0 d c) ⊢ _ from Entails.of_eq (tiles_eq m d (fg m d)).symm) $$ Hdn
  iapply (wp_hlo_within 𝒱 (SparseCore.T d) none Set.univ (op := opOut) (S := SA) opOut_bufs (V := V2 m d)) $$ [Hb H3 Hrest]
  · isplitl [Hb]; · iexact Hb
    rw [held_V2]
    isplitl [H3]; · iexact H3
    iexact Hrest
  iintro ⟨Hb, Hheld⟩
  ihave Hh := (show (held (T d) SA (opOut.result (V2 m d)) : sProp 𝕄) ⊢ _ from Entails.of_eq (held_sub_split (T d) SF_sub (V3 m d))) $$ Hheld
  icases Hh with ⟨HF, -⟩
  rw [wp_ret]; imodintro; imodintro
  isplitl [Hst]; · iexact Hst
  isplitr [Hb Hts]
  · iexact HF
  isplitl [Hb] <;> iassumption

/-- What a claim reads of a device's final state. -/
def fq (d : Dev nD) (s' : Phys nD τ sig (Elt F)) : Prop := ∀ b ∈ SF, s'.mem.mem (d, b) = V3 m d b

set_option maxRecDepth 16384 in
theorem hfin (d : Dev nD) (s' : Phys nD τ sig (Elt F)) : iprop(FIN m d ∗ SI s') ⊢ (⌜fq m d s'⌝ : sProp 𝕄) := by
  unfold FIN held SF
  rw [SparseCore.bigSep_insert' (by decide), SparseCore.bigSep_insert' (by decide), bigSep_singleton]
  iintro ⟨⟨H0, H1, H2⟩, HSI⟩
  ihave H := (persistent_entails_right (SI_pointsTo_agree (st := s') (ℓ := (d, Proc.devRef .tc main_arg0)) (I := Finset.univ) (q := fullShare) (f := V3 m d _))) $$ [HSI H0]
  · isplitl [HSI] <;> iassumption
  icases H with ⟨%h0, HSI, -⟩
  ihave H := (persistent_entails_right (SI_pointsTo_agree (st := s') (ℓ := (d, Proc.devRef .tc main_arg1)) (I := Finset.univ) (q := fullShare) (f := V3 m d _))) $$ [HSI H1]
  · isplitl [HSI] <;> iassumption
  icases H with ⟨%h1, HSI, -⟩
  ihave H := (SI_pointsTo_agree (st := s') (ℓ := (d, Proc.devRef .tc main_v11)) (I := Finset.univ) (q := fullShare) (f := V3 m d _)) $$ [HSI H2]
  · isplitl [HSI] <;> iassumption
  icases H with %h2
  ipureintro
  intro b hb
  simp only [SF, Finset.mem_insert, Finset.mem_singleton] at hb
  rcases hb with rfl | rfl | rfl
  · exact funext fun i => h0 i (Finset.mem_univ i)
  · exact funext fun i => h1 i (Finset.mem_univ i)
  · exact funext fun i => h2 i (Finset.mem_univ i)

/-- The state a run ends in: each claimed array as the operations leave it, every semaphore at zero. -/
def QC : PUnit × MemSt nD τ sig (Elt F) → Prop := fun r => (∀ c : Dev nD, ∀ b ∈ SF, r.2.mem (c, b) = V3 m c b) ∧ r.2.sem = fun _ => 0

/-- The program's run, from any memory whose list names half rows of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  The values: what the operations before the call leave in the list and the table, that the precondition keeps the list in
  range, and what the result holds at an index.
-/
module

public import proofs.«01_k».proof.Proof.Launch
public import proofs.«01_k».proof.Proof.Gen.Pre_in_rows
public import Idealize.ShloMosaic.Lib.ReduceAll
public import Idealize.ShloMosaic.Lib.ValueIdxCore
public import Idealize.ShloMosaic.Lib.StableHlo.RunRead
public import Idealize.ShloMosaic.Lib.Pipeline.Value

@[expose] public section

noncomputable section

namespace Cert.Proof.Gather

open Cert.KernelIdeal Cert.KernelIdeal.Gen
open Idealize.ShloMosaic Idealize.ShloMosaic.TcCoe Idealize.ShloMosaic.StableHlo Idealize.ShloMosaic.ValueIdx
open Idealize.SL.Sem

variable {F : FTy → Type} [FloatOps F]
variable (m : (ℓ : Loc nD τ sig) → Buf (Elt F) ℓ)

/-- The table and the row indices as the launch memory holds them. -/
abbrev tab (d : Dev nD) : S2048x512.Idx → BitVec 32 := m (d, Proc.devRef .tc main_arg0)
abbrev ind (d : Dev nD) : S32768.Idx → BitVec 32 := m (d, Proc.devRef .tc main_arg1)

/-- The call's table is the argument's rows cut in halves. -/
theorem ft_eq (d : Dev nD) : ft m d = shapeCast S4096x2x128 (tab m d) shapeCasts_S2048x512_S4096x2x128 := by
  unfold ft V1 before
  after_reads_simp
  rfl

/-- The call's list: two words for each row index. -/
theorem fl_eq (d : Dev nD) : fl m d = shapeCast S65536
    (addi (broadcastInDim S32768x2 ![0, 1] bcast_S32768x1_S32768x2_0_1
        (muli (broadcastInDim S32768x1 ![] bcast_S_S32768x1 (constantI S_ 32 2#32))
          (broadcastInDim S32768x1 ![0] bcast_S32768_S32768x1_0 (ind m d))))
      (broadcastInDim S32768x2 ![0, 1] bcast_S1x2_S32768x2_0_1 (broadcastInDim S1x2 ![1] bcast_S2_S1x2_1 (iotaInDim S2 32 0))))
    shapeCasts_S32768x2_S65536 := by
  unfold fl V1 before
  after_reads_simp
  rfl

/-- Position `2 i + h` of the list holds twice the row index at `i`, plus `h`. -/
theorem fl_at (d : Dev nD) (i : Fin 32768) (h : Fin 2) (r : Fin 65536) (hr : r.val = 2 * i.val + h.val) :
    fl m d (ix1 r) = 2#32 * ind m d (ix1 i) + BitVec.ofNat 32 h.val := by
  rw [fl_eq]
  rw [shapeCast_apply _ _ (ix1 r) (ix2 i h) (by rw [Shape.rowMajor_val_two, Shape.rowMajor_val_one]; show i.val * 2 + h.val = r.val; omega)]
  show IntOp.addi _ _ = _
  rw [broadcastInDim_apply _ _ _ (ix2 i h) (ix2 i (0 : Fin 1)) (fun a => match a with | ⟨0, _⟩ => rfl | ⟨1, _⟩ => rfl),
    broadcastInDim_apply _ _ _ (ix2 i h) (ix2 (0 : Fin 1) h) (fun a => match a with | ⟨0, _⟩ => rfl | ⟨1, _⟩ => rfl),
    broadcastInDim_apply _ _ _ (ix2 (0 : Fin 1) h) (ix1 h) (fun a => match a with | ⟨0, _⟩ => rfl)]
  show IntOp.addi (IntOp.muli _ _) _ = _
  rw [broadcastInDim_apply _ _ (ind m d) (ix2 i (0 : Fin 1)) (ix1 i) (fun a => match a with | ⟨0, _⟩ => rfl)]
  rfl

/-- A row index in range makes a list word in range. -/
theorem fl_toNat (d : Dev nD) (i : Fin 32768) (h : Fin 2) (r : Fin 65536) (hr : r.val = 2 * i.val + h.val)
    (hi : (ind m d (ix1 i)).toNat < 2048) : (fl m d (ix1 r)).toNat = 2 * (ind m d (ix1 i)).toNat + h.val := by
  rw [fl_at m d i h r hr]
  have := h.isLt
  simp only [BitVec.toNat_add, BitVec.toNat_mul, BitVec.toNat_ofNat, Nat.reducePow, Nat.reduceMod]
  omega

/-! ## The precondition -/

/-- A word that is at least 0 and less than 2048, read with its sign, is less than 2048. -/
theorem word_lt (v : BitVec 32) (e : IntOp.andi (IntOp.cmpi .sge v 0#32) (IntOp.cmpi .slt v 2048#32) = 1#1) : v.toNat < 2048 := by
  have ha (p q : Bool) : IntOp.andi (BitVec.ofBool p) (BitVec.ofBool q) = BitVec.ofBool (p && q) := by cases p <;> cases q <;> decide
  have h1 (p : Bool) : (BitVec.ofBool p = 1#1) ↔ p = true := by cases p <;> decide
  simp only [IntOp.cmpi, ha, h1, Bool.and_eq_true, BitVec.sle_eq_decide, BitVec.slt_eq_decide, decide_eq_true_eq,
    BitVec.toInt_eq_toNat_cond, BitVec.toNat_ofNat, Nat.reducePow, Nat.reduceMod] at e
  omega

/-- The precondition read at a position: the row index there is less than 2048. -/
theorem in_rows_at [Cert.Pre_in_rows.Facts] (t : S2048x512.Idx → BitVec 32) (x : S32768.Idx → BitVec 32)
    (h : Cert.Pre_in_rows.fn (F := F) t x = fun _ => 1#1) (i : S32768.Idx) : (x i).toNat < 2048 := by
  have h0 := congrFun h ix0
  dsimp only [Cert.Pre_in_rows.fn] at h0
  haveI : Subsingleton Cert.Pre_in_rows.S_.Idx := ⟨fun a b => funext fun k => k.elim0⟩
  exact word_lt _ (Host.reduce_andi_all _ _ _ _ _ h0 i)

/-- Row indices below 2048 put every list word in range. -/
theorem preOK (h : ∀ (d : Dev nD) i, (ind m d i).toNat < 2048) : PreOK m := by
  intro d x
  obtain ⟨r, rfl⟩ : ∃ r : Fin 65536, x = ix1 r := ⟨x 0, eq_ix1 x⟩
  have hr := r.isLt
  have := h d (ix1 ⟨r.val / 2, by omega⟩)
  rw [fl_toNat m d ⟨r.val / 2, by omega⟩ ⟨r.val % 2, by omega⟩ r (by show _ = 2 * (r.val / 2) + r.val % 2; omega) this]
  show 2 * _ + r.val % 2 < 4096
  omega

/-! ## What the program leaves -/

/-- The arguments are left as they were. -/
theorem V3_arg0 (d : Dev nD) : V3 m d (Proc.devRef .tc main_arg0) = tab m d := by
  unfold V3 V2
  rw [HloOp.result_of_not_mem _ _ (by simp only [StableHlo.reshape_writes]; decide), Function.update_of_ne (StableHlo.devRef_ne_of_ne (by decide))]
  unfold V1 before
  after_reads_simp
  rfl

theorem V3_arg1 (d : Dev nD) : V3 m d (Proc.devRef .tc main_arg1) = ind m d := by
  unfold V3 V2
  rw [HloOp.result_of_not_mem _ _ (by simp only [StableHlo.reshape_writes]; decide), Function.update_of_ne (StableHlo.devRef_ne_of_ne (by decide))]
  unfold V1 before
  after_reads_simp
  rfl

/-- The result is the gathered half rows joined into rows. -/
theorem V3_out (d : Dev nD) : (V3 m d (Proc.devRef .tc main_v11) : S32768x512.Idx → BitVec 32)
    = shapeCast S32768x512 (fg m d) shapeCasts_S65536x2x128_S32768x512 := by
  unfold V3
  rw [reshape_result]
  unfold V2
  rw [Function.update_self]
  rfl

/-- The half row named at a position, as a number. -/
theorem halfRow_val (l : S65536.Idx → BitVec 32) (r : Fin 65536) : (halfRow l r).val = (l (ix1 r)).toNat % 4096 :=
  congrArg (fun x => (l x).toNat % 4096) (funext fun a => match a with | ⟨0, _⟩ => rfl)

/-- Entry `(i, j)` of the result is entry `j` of the row that the index at `i` names. -/
theorem out_at (d : Dev nD) (h : ∀ i, (ind m d i).toNat < 2048) (i : Fin 32768) (j : Fin 512) :
    (V3 m d (Proc.devRef .tc main_v11) : S32768x512.Idx → BitVec 32) (ix2 i j)
      = tab m d (ix2 (⟨(ind m d (ix1 i)).toNat, h _⟩ : Fin 2048) j) := by
  have hi := i.isLt
  have hj := j.isLt
  have hw := h (ix1 i)
  rw [V3_out]
  rw [shapeCast_apply _ _ (ix2 i j)
    (ix3 (⟨2 * i.val + j.val / 256, by omega⟩ : Fin 65536) (⟨j.val % 256 / 128, by omega⟩ : Fin 2) (⟨j.val % 128, by omega⟩ : Fin 128))
    (by rw [Shape.rowMajor_val_three, Shape.rowMajor_val_two]
        show ((2 * i.val + j.val / 256) * 2 + j.val % 256 / 128) * 128 + j.val % 128 = i.val * 512 + j.val; omega)]
  have e : (fl m d (ix1 (⟨2 * i.val + j.val / 256, by omega⟩ : Fin 65536))).toNat = 2 * (ind m d (ix1 i)).toNat + j.val / 256 :=
    fl_toNat m d i ⟨j.val / 256, by omega⟩ _ rfl hw
  have hh : (halfRow (fl m d) (⟨2 * i.val + j.val / 256, by omega⟩ : Fin 65536)).val = 2 * (ind m d (ix1 i)).toNat + j.val / 256 := by
    rw [halfRow_val, e]; omega
  unfold fg gathered
  rw [ft_eq]
  refine shapeCast_apply _ _ _ _ ?_
  rw [Shape.rowMajor_val_three, Shape.rowMajor_val_two]
  show (ind m d (ix1 i)).toNat * 512 + j.val = ((halfRow (fl m d) _).val * 2 + j.val % 256 / 128) * 128 + j.val % 128
  rw [hh]; omega

end Cert.Proof.Gather

end
-- ==== Proof.AttnSpec.lean ====
module
public import Idealize.ShloMosaic.Lib.IdealHost
public import Idealize.ShloMosaic.Lib.MatmulPlain
import Mathlib.Tactic.Ring
import Mathlib.Tactic.Linarith
@[expose] public section
set_option maxRecDepth 4000

/-!
# One query's attention over its neighbours, at the extended reals

`att` is the mathematics of the reference for one query: keys and values rotated by the angle of their distance,
scores per head, a softmax over the 32 neighbours, and the weighted sum of the values. `attSwapped` is the same value
as the kernel computes it: the rotation is moved from the key to the query, and each lane's cosine and signed sine are
picked out beforehand. `attSwapped_eq` says that the two agree where the arguments are finite.
-/

namespace Cert.Proof.Attn
open Idealize.ShloMosaic
open scoped BigOperators

noncomputable section

/-- The key that a packed word holds: its high half as the upper half of a float's bits. -/
def key (w : BitVec 32) : EReal := Ideal.ofBits .f32 (w &&& 4294901760#32)
/-- The value that a packed word holds: its low half as the upper half of a float's bits. -/
def value (w : BitVec 32) : EReal := Ideal.ofBits .f32 (w <<< 16)
/-- The rotation's angle at a distance and a frequency. -/
def angle (d f : EReal) : EReal := (d * Ideal.ofBits .f32 0x42C80000#32) * f
/-- The scale of the scores, one eighth. -/
def eighth : EReal := Ideal.ofBits .f32 0x3E000000#32

/-- The other lane of a lane's pair. -/
def mate (c : Fin 512) : Fin 512 := if h : c.val % 2 = 0 then ⟨c.val + 1, by omega⟩ else ⟨c.val - 1, by omega⟩
/-- The number of a lane's frequency, for a rotated lane. -/
def freqOf (c : Fin 512) : Fin 16 := ⟨c.val % 64 / 2 % 16, by omega⟩
/-- A lane's head. -/
def head (c : Fin 512) : Fin 8 := ⟨c.val / 64, by omega⟩
/-- The lane at a place of a head. -/
def lane (h : Fin 8) (d : Fin 64) : Fin 512 := ⟨64 * h.val + d.val, by omega⟩

/-- A row rotated by the angles `a`: each head's first 32 lanes in pairs, the others left as they are. -/
def rot (x : Fin 512 → EReal) (a : Fin 16 → EReal) (c : Fin 512) : EReal :=
  if c.val % 64 < 32 then
    x c * Ideal.cos (a (freqOf c)) + (if c.val % 2 = 0 then -x (mate c) else x (mate c)) * Ideal.sin (a (freqOf c))
  else x c

/-- A head's score of a query against a key at the angles `a`. -/
def score (q k : Fin 512 → EReal) (a : Fin 16 → EReal) (h : Fin 8) : EReal :=
  (∑ d : Fin 64, q (lane h d) * rot k a (lane h d)) * eighth

/-- The largest of 32 scores. -/
def top (s : Fin 32 → EReal) : EReal := Finset.univ.fold max ⊥ s
/-- The softmax of 32 scores. -/
def softmax (s : Fin 32 → EReal) (j : Fin 32) : EReal :=
  Ideal.div (Ideal.exp (s j - top s)) (∑ i : Fin 32, Ideal.exp (s i - top s))

/-- One query's attention: `q` the query, `w` the packed words of its 32 neighbours, `d` their distances, `f` the
frequencies. -/
def att (q : Fin 512 → EReal) (w : Fin 32 → Fin 512 → BitVec 32) (d : Fin 32 → EReal) (f : Fin 16 → EReal) (c : Fin 512) :
    EReal :=
  ∑ j : Fin 32, softmax (fun i => score q (fun l => key (w i l)) (fun m => angle (d i) (f m)) (head c)) j
    * rot (fun l => value (w j l)) (fun m => angle (d j) (f m)) c

/-- A lane's cosine, 1 on the lanes that are not rotated. -/
def cosLane (a : Fin 16 → EReal) (c : Fin 512) : EReal := if c.val % 64 < 32 then Ideal.cos (a (freqOf c)) else 1
/-- A lane's signed sine, 0 on the lanes that are not rotated. -/
def sinLane (a : Fin 16 → EReal) (c : Fin 512) : EReal :=
  if c.val % 64 < 32 then (if c.val % 2 = 0 then -Ideal.sin (a (freqOf c)) else Ideal.sin (a (freqOf c))) else 0

/-- A head's score with the rotation moved to the query. -/
def scoreSwapped (q k : Fin 512 → EReal) (a : Fin 16 → EReal) (h : Fin 8) : EReal :=
  (∑ d : Fin 64, k (lane h d) * (q (lane h d) * cosLane a (lane h d) - q (mate (lane h d)) * sinLane a (lane h d))) * eighth

/-- One query's attention as the kernel computes it. -/
def attSwapped (q : Fin 512 → EReal) (w : Fin 32 → Fin 512 → BitVec 32) (d : Fin 32 → EReal) (f : Fin 16 → EReal)
    (c : Fin 512) : EReal :=
  ∑ j : Fin 32,
    ((softmax (fun i => scoreSwapped q (fun l => key (w i l)) (fun m => angle (d i) (f m)) (head c)) j
        * cosLane (fun m => angle (d j) (f m)) c) * value (w j c)
    + (softmax (fun i => scoreSwapped q (fun l => key (w i l)) (fun m => angle (d i) (f m)) (head c)) j
        * sinLane (fun m => angle (d j) (f m)) c) * value (w j (mate c)))

/-! ## Real arguments -/

/-- An extended real that is a real. -/
def IsReal (x : EReal) : Prop := ∃ r : ℝ, x = (r : EReal)

/-- A finite magnitude is a real's. -/
theorem isReal_of_abs {x : EReal} (h : max x (-x) < ⊤) : IsReal x := by
  induction x with
  | bot => simp at h
  | top => simp at h
  | coe r => exact ⟨r, rfl⟩

/-- A family of reals as one real function. -/
theorem isReal_choose {ι : Type} {f : ι → EReal} (h : ∀ i, IsReal (f i)) : ∃ g : ι → ℝ, f = fun i => (g i : EReal) :=
  ⟨fun i => (h i).choose, funext fun i => (h i).choose_spec⟩

/-- A product of reals is one. -/
theorem IsReal.mul {x y : EReal} (hx : IsReal x) (hy : IsReal y) : IsReal (x * y) := by
  obtain ⟨a, rfl⟩ := hx; obtain ⟨b, rfl⟩ := hy; exact ⟨a * b, by push_cast; rfl⟩
/-- A sum of two reals is one. -/
theorem IsReal.add {x y : EReal} (hx : IsReal x) (hy : IsReal y) : IsReal (x + y) := by
  obtain ⟨a, rfl⟩ := hx; obtain ⟨b, rfl⟩ := hy; exact ⟨a + b, by push_cast; rfl⟩
/-- A real negated is one. -/
theorem IsReal.neg {x : EReal} (hx : IsReal x) : IsReal (-x) := by
  obtain ⟨a, rfl⟩ := hx; exact ⟨-a, by push_cast; rfl⟩
/-- A difference of two reals is one. -/
theorem IsReal.sub {x y : EReal} (hx : IsReal x) (hy : IsReal y) : IsReal (x - y) := by
  rw [sub_eq_add_neg]; exact hx.add hy.neg
/-- A real's cosine is real. -/
theorem IsReal.cos {x : EReal} (hx : IsReal x) : IsReal (Ideal.cos x) := by
  obtain ⟨a, rfl⟩ := hx; exact ⟨Real.cos a, rfl⟩
/-- A real's sine is real. -/
theorem IsReal.sin {x : EReal} (hx : IsReal x) : IsReal (Ideal.sin x) := by
  obtain ⟨a, rfl⟩ := hx; exact ⟨Real.sin a, rfl⟩
/-- A finite sum of reals is one. -/
theorem IsReal.sum {ι : Type} (s : Finset ι) {f : ι → EReal} (h : ∀ i, IsReal (f i)) : IsReal (∑ i ∈ s, f i) := by
  obtain ⟨g, rfl⟩ := isReal_choose h
  exact ⟨∑ i ∈ s, g i, by
    induction s using Finset.cons_induction with
    | empty => simp
    | cons a s ha ih => rw [Finset.sum_cons, Finset.sum_cons, ih]; push_cast; rfl⟩

/-- The scale is a real. -/
theorem isReal_eighth : IsReal eighth := ⟨1 / 8, by
  unfold eighth; simp [Ideal.ofBits, Ideal.ieee, -EReal.coe_mul]; norm_num⟩
/-- The factor of the distances is a real. -/
theorem isReal_hundred : IsReal (Ideal.ofBits .f32 0x42C80000#32) := ⟨100, by
  simp [Ideal.ofBits, Ideal.ieee, -EReal.coe_mul]; norm_num⟩

/-- A rotated row of reals is real. -/
theorem isReal_rot {x : Fin 512 → EReal} {a : Fin 16 → EReal} (hx : ∀ c, IsReal (x c)) (ha : ∀ m, IsReal (a m)) (c : Fin 512) :
    IsReal (rot x a c) := by
  unfold rot
  split
  · refine ((hx c).mul (ha _).cos).add (IsReal.mul ?_ (ha _).sin)
    split
    · exact (hx _).neg
    · exact hx _
  · exact hx c

/-- A score of reals is real. -/
theorem isReal_score {q k : Fin 512 → EReal} {a : Fin 16 → EReal} (hq : ∀ c, IsReal (q c)) (hk : ∀ c, IsReal (k c))
    (ha : ∀ m, IsReal (a m)) (h : Fin 8) : IsReal (score q k a h) :=
  (IsReal.sum _ fun d => (hq _).mul (isReal_rot hk ha _)).mul isReal_eighth

/-- The largest of 32 reals is real. -/
theorem isReal_top {s : Fin 32 → EReal} (h : ∀ i, IsReal (s i)) : IsReal (top s) := by
  have hsup : top s = Finset.univ.sup s := rfl
  obtain ⟨i, -, hi⟩ := Finset.exists_mem_eq_sup (Finset.univ : Finset (Fin 32)) Finset.univ_nonempty s
  rw [hsup, hi]; exact h i

/-- A softmax of reals is real, and not negative. -/
theorem softmax_real {s : Fin 32 → EReal} (h : ∀ i, IsReal (s i)) (j : Fin 32) : ∃ r : ℝ, 0 ≤ r ∧ softmax s j = (r : EReal) := by
  obtain ⟨t, ht⟩ := isReal_top h
  obtain ⟨g, rfl⟩ := isReal_choose h
  have he : ∀ i, Ideal.exp ((g i : EReal) - top fun i => (g i : EReal)) = ((Real.exp (g i - t) : ℝ) : EReal) := fun i => by
    rw [ht, ← EReal.coe_sub]; rfl
  unfold softmax
  simp only [he]
  obtain ⟨S, hS⟩ := IsReal.sum (Finset.univ : Finset (Fin 32)) (f := fun i => ((Real.exp (g i - t) : ℝ) : EReal)) fun i => ⟨_, rfl⟩
  rw [hS]
  unfold Ideal.div
  split
  · rename_i h0
    exfalso
    have hpos : (0 : EReal) < ∑ i : Fin 32, ((Real.exp (g i - t) : ℝ) : EReal) := by
      refine lt_of_lt_of_le (b := ((Real.exp (g j - t) : ℝ) : EReal)) (by exact_mod_cast Real.exp_pos _) ?_
      exact Finset.single_le_sum (f := fun i => ((Real.exp (g i - t) : ℝ) : EReal))
        (fun i _ => by exact_mod_cast (Real.exp_pos _).le) (Finset.mem_univ j)
    rw [hS, h0] at hpos
    exact lt_irrefl _ hpos
  · have hS0 : 0 ≤ S := by
      have h0 : (0 : EReal) ≤ ∑ i : Fin 32, ((Real.exp (g i - t) : ℝ) : EReal) :=
        Finset.sum_nonneg fun i _ => by exact_mod_cast (Real.exp_pos _).le
      rw [hS] at h0
      exact_mod_cast h0
    exact ⟨Real.exp (g j - t) * S⁻¹, mul_nonneg (Real.exp_pos _).le (inv_nonneg.mpr hS0), by push_cast; rfl⟩

/-! ## The lanes of a head -/

/-- The other place of a place's pair. -/
def matePlace (d : Fin 64) : Fin 64 := if h : d.val % 2 = 0 then ⟨d.val + 1, by omega⟩ else ⟨d.val - 1, by omega⟩

/-- A pair lies within one head. -/
theorem mate_lane (h : Fin 8) (d : Fin 64) : mate (lane h d) = lane h (matePlace d) := by
  apply Fin.ext
  unfold mate lane matePlace
  by_cases e : d.val % 2 = 0
  · have e' : (64 * h.val + d.val) % 2 = 0 := by omega
    simp only [e, e', dif_pos]; omega
  · have e' : ¬ (64 * h.val + d.val) % 2 = 0 := by omega
    simp only [e, e', dif_neg, not_false_eq_true]; omega

/-- The other of the other is the place itself. -/
theorem matePlace_matePlace (d : Fin 64) : matePlace (matePlace d) = d := by revert d; decide
/-- The other lane of the other lane is the lane itself. -/
theorem mate_mate (c : Fin 512) : mate (mate c) = c := by
  apply Fin.ext
  unfold mate
  by_cases e : c.val % 2 = 0
  · have e' : ¬ (c.val + 1) % 2 = 0 := by omega
    simp only [e, e', dif_pos, dif_neg, not_false_eq_true]; omega
  · have e' : (c.val - 1) % 2 = 0 := by omega
    simp only [e, e', dif_pos, dif_neg, not_false_eq_true]; omega

/-- The other lane is of the other parity. -/
theorem mate_even (c : Fin 512) : (mate c).val % 2 = 0 ↔ ¬ c.val % 2 = 0 := by
  unfold mate; split <;> simp only <;> omega
/-- A pair is rotated whole or left whole. -/
theorem mate_rotated (c : Fin 512) : (mate c).val % 64 < 32 ↔ c.val % 64 < 32 := by
  unfold mate; split <;> simp only <;> omega
/-- A pair has one frequency. -/
theorem mate_freq (c : Fin 512) : freqOf (mate c) = freqOf c := by
  apply Fin.ext
  unfold mate freqOf; split <;> simp only <;> omega

/-! ## The two forms agree -/

/-- One term of the score, with the rotation moved: the key's part at a lane and the query's at the other. -/
theorem score_term {q k : Fin 512 → EReal} {a : Fin 16 → EReal} (hq : ∀ c, IsReal (q c)) (hk : ∀ c, IsReal (k c))
    (ha : ∀ m, IsReal (a m)) (c : Fin 512) :
    q c * rot k a c = k c * (q c * cosLane a c) - k (mate c) * (q (mate (mate c)) * sinLane a (mate c)) := by
  obtain ⟨x, hx⟩ := hq c
  obtain ⟨y, hy⟩ := hk c
  obtain ⟨z, hz⟩ := hk (mate c)
  obtain ⟨u, hu⟩ := (ha (freqOf c)).cos
  obtain ⟨v, hv⟩ := (ha (freqOf c)).sin
  unfold rot cosLane sinLane
  simp only [mate_mate, mate_rotated, mate_freq, mate_even, hx, hy, hz, hu, hv]
  by_cases h : c.val % 64 < 32
  · by_cases e : c.val % 2 = 0
    · simp only [h, e, if_true, not_true_eq_false, if_false]
      norm_cast; ring
    · simp only [h, e, if_true, not_false_eq_true, if_false]
      norm_cast; ring
  · simp only [h, if_false]
    norm_cast; simp; ring

/-- The two forms of the score agree on reals. -/
theorem scoreSwapped_eq {q k : Fin 512 → EReal} {a : Fin 16 → EReal} (hq : ∀ c, IsReal (q c)) (hk : ∀ c, IsReal (k c))
    (ha : ∀ m, IsReal (a m)) (h : Fin 8) : scoreSwapped q k a h = score q k a h := by
  have hc : ∀ c, IsReal (cosLane a c) := fun c => by
    unfold cosLane; split
    · exact (ha _).cos
    · exact ⟨1, rfl⟩
  have hs : ∀ c, IsReal (sinLane a c) := fun c => by
    unfold sinLane; split
    · split
      · exact (ha _).sin.neg
      · exact (ha _).sin
    · exact ⟨0, rfl⟩
  unfold scoreSwapped score
  refine congrArg (· * eighth) ?_
  obtain ⟨P, hP⟩ := isReal_choose (f := fun d : Fin 64 => k (lane h d) * (q (lane h d) * cosLane a (lane h d)))
    fun d => (hk _).mul ((hq _).mul (hc _))
  obtain ⟨Q, hQ⟩ := isReal_choose (f := fun d : Fin 64 => k (lane h d) * (q (mate (lane h d)) * sinLane a (lane h d)))
    fun d => (hk _).mul ((hq _).mul (hs _))
  have hl : ∀ d : Fin 64, k (lane h d) * (q (lane h d) * cosLane a (lane h d) - q (mate (lane h d)) * sinLane a (lane h d))
      = ((P d - Q d : ℝ) : EReal) := fun d => by
    rw [EReal.coe_sub, ← congrFun hP d, ← congrFun hQ d]
    obtain ⟨x, hx⟩ := hk (lane h d)
    obtain ⟨y, hy⟩ := (hq (lane h d)).mul (hc (lane h d))
    obtain ⟨z, hz⟩ := (hq (mate (lane h d))).mul (hs (lane h d))
    simp only [hx, hy, hz]
    norm_cast; ring
  have hr : ∀ d : Fin 64, q (lane h d) * rot k a (lane h d) = ((P d - Q (matePlace d) : ℝ) : EReal) := fun d => by
    rw [EReal.coe_sub, ← congrFun hP d, ← congrFun hQ (matePlace d), ← mate_lane]
    exact score_term hq hk ha _
  simp only [hl, hr]
  have hsum : ∀ f : Fin 64 → ℝ, ∑ d, ((f d : ℝ) : EReal) = ((∑ d, f d : ℝ) : EReal) := fun f =>
    (map_sum (⟨⟨Real.toEReal, rfl⟩, EReal.coe_add⟩ : ℝ →+ EReal) f Finset.univ).symm
  rw [hsum, hsum, Finset.sum_sub_distrib, Finset.sum_sub_distrib]
  refine congrArg (fun r : ℝ => ((∑ d, P d - r : ℝ) : EReal)) ?_
  exact (Equiv.sum_comp (⟨matePlace, matePlace, matePlace_matePlace, matePlace_matePlace⟩ : Fin 64 ≃ Fin 64) Q).symm

/-- The attention as the kernel computes it is the reference's, where the query, the keys, the distances and the
frequencies are finite. -/
theorem attSwapped_eq {q : Fin 512 → EReal} {w : Fin 32 → Fin 512 → BitVec 32} {d : Fin 32 → EReal} {f : Fin 16 → EReal}
    (hq : ∀ c, IsReal (q c)) (hk : ∀ j c, IsReal (key (w j c))) (hd : ∀ j, IsReal (d j)) (hf : ∀ m, IsReal (f m)) (c : Fin 512) :
    attSwapped q w d f c = att q w d f c := by
  have ha : ∀ j m, IsReal (angle (d j) (f m)) := fun j m => ((hd j).mul isReal_hundred).mul (hf m)
  unfold attSwapped att
  simp only [fun i => scoreSwapped_eq hq (hk i) (ha i) (head c)]
  refine Finset.sum_congr rfl fun j _ => ?_
  obtain ⟨A, h0, hA⟩ := softmax_real (fun i => isReal_score hq (hk i) (ha i) (head c)) j
  have hA0 : (0 : EReal) ≤ (A : EReal) := by exact_mod_cast h0
  unfold rot cosLane sinLane
  rw [hA]
  by_cases h : c.val % 64 < 32
  · simp only [h, if_true]
    rw [EReal.left_distrib_of_nonneg_of_ne_top hA0 (EReal.coe_ne_top A), mul_assoc, mul_assoc]
    refine congrArg₂ (fun s t : EReal => A * s + A * t) (mul_comm _ _) ?_
    by_cases e : c.val % 2 = 0
    · simp only [e, if_true]
      rw [EReal.neg_mul, EReal.neg_mul, mul_comm]
    · simp only [e, if_false]
      exact mul_comm _ _
  · simp only [h, if_false, mul_one, mul_zero, zero_mul, add_zero]

end
end Cert.Proof.Attn
-- ==== Proof.AttnMask.lean ====
module
public import proofs.«01_k».proof.Proof.Gen.AttendIdeal.Value
public import proofs.«01_k».proof.Proof.AttnSpec
@[expose] public section

/-!
# The lanes' masks of the attention kernel

The kernel marks lanes by words computed from their numbers. Each mask is read here as a statement about the lane.
-/

namespace Cert.Proof.Attn
open Idealize.ShloMosaic Idealize.ShloMosaic.ValueIdx Cert.AttendIdeal Cert.AttendIdeal.Gen

/-- The remainder with the divisor's sign, as the kernel computes it of words. -/
def floorMod (x d : BitVec 32) : BitVec 32 :=
  if IntOp.andi (IntOp.xori (IntOp.cmpi .slt (IntOp.remsi .vector x d) 0#32) (IntOp.cmpi .slt d 0#32))
      (IntOp.cmpi .ne (IntOp.remsi .vector x d) 0#32) = 1#1
  then IntOp.addi (IntOp.remsi .vector x d) d else IntOp.remsi .vector x d

/-- Of a lane's number by 64 it is the remainder. -/
theorem floorMod_64 (c : Fin 512) : floorMod (BitVec.ofNat 32 c.val) 64#32 = BitVec.ofNat 32 (c.val % 64) := by
  revert c; decide +kernel
/-- Of a lane's number by 2 it is the parity. -/
theorem floorMod_2 (c : Fin 512) : floorMod (BitVec.ofNat 32 c.val) 2#32 = BitVec.ofNat 32 (c.val % 2) := by
  revert c; decide +kernel

/-- The divisor 64 as the kernel guards it. -/
abbrev by64 : BitVec 32 := Scalar.select (Scalar.cmpi .eq 64#32 0#32) 1#32 64#32
/-- The divisor 2 as the kernel guards it. -/
abbrev by2 : BitVec 32 := Scalar.select (Scalar.cmpi .eq 2#32 0#32) 1#32 2#32

/-- The place of a lane within its head. -/
theorem pay13_at (m : Fin 16) (c : Fin 512) :
    k0_pay13 by64 k0_pay9 k0_pay10 k0_pay11 k0_pay12 (ix2 m c) = BitVec.ofNat 32 (c.val % 64) :=
  (show _ = floorMod (BitVec.ofNat 32 (0 * 512 + c.val)) 64#32 from rfl).trans (by rw [Nat.zero_mul, Nat.zero_add]; exact floorMod_64 c)

/-- The mask of the table of cosines: frequency `m` belongs to lane `c`. -/
theorem pay14_at (m : Fin 16) (c : Fin 512) : k0_pay14 by64 k0_pay9 k0_pay10 k0_pay11 k0_pay12 (ix2 m c)
    = BitVec.ofBool (decide (c.val % 64 < 32 ∧ freqOf c = m)) := by
  revert m c; decide +kernel

/-- The parity mask of the table of sines. -/
theorem parity_at (c : Fin 512) :
    IntOp.cmpi .eq (floorMod (BitVec.ofNat 32 (c.val % 64)) 2#32) 0#32 = BitVec.ofBool (decide (c.val % 2 = 0)) := by
  revert c; decide +kernel
/-- The parity mask of a row's lanes. -/
theorem evenLane_at (c : Fin 512) :
    IntOp.cmpi .eq (floorMod (BitVec.ofNat 32 (0 * 512 + c.val)) 2#32) 0#32 = BitVec.ofBool (decide (c.val % 2 = 0)) := by
  revert c; decide +kernel
/-- The mask of the lanes that are not rotated. -/
theorem plain_at (c : Fin 512) :
    IntOp.cmpi .sge (floorMod (BitVec.ofNat 32 (0 * 512 + c.val)) 64#32) 32#32 = BitVec.ofBool (decide (¬ c.val % 64 < 32)) := by
  revert c; decide +kernel

/-- The quotient rounded down, as the kernel computes it of words from the quotient, the test of the signs and the
remainder. -/
noncomputable def headWord (c : Fin 512) : BitVec 32 :=
  if IntOp.andi (k0_pay24 (ix2 c (0 : Fin 8))) (IntOp.cmpi .ne (IntOp.remsi .vector (BitVec.ofNat 32 (0 * 512 + c.val)) 64#32) 0#32) = 1#1
  then IntOp.subi (IntOp.divsi .vector (BitVec.ofNat 32 (0 * 512 + c.val)) 64#32) 1#32
  else IntOp.divsi .vector (BitVec.ofNat 32 (0 * 512 + c.val)) 64#32

/-- The mask of a head's lanes. -/
theorem head_at (c : Fin 512) (h : Fin 8) :
    IntOp.cmpi .eq (headWord c) (BitVec.ofNat 32 (0 * 8 + h.val)) = BitVec.ofBool (decide (head c = h)) := by
  revert c h; decide +kernel

/-- A mask widened and read as a float is one or zero. -/
theorem maskFloat (b : Bool) :
    FloatOps.sitofp (F := Ideal) .f32 ((BitVec.ofBool b).setWidth 32) = if b then (1 : EReal) else 0 := by
  cases b
  · show (((((BitVec.ofBool false).setWidth 32).toInt : ℤ) : ℝ) : EReal) = 0
    rw [show ((BitVec.ofBool false).setWidth 32).toInt = 0 by decide]; norm_num
  · show (((((BitVec.ofBool true).setWidth 32).toInt : ℤ) : ℝ) : EReal) = 1
    rw [show ((BitVec.ofBool true).setWidth 32).toInt = 1 by decide]; norm_num

end Cert.Proof.Attn
-- ==== Proof.AttnBlock.lean ====
module
public import proofs.«01_k».proof.Proof.AttnMask
public import Idealize.ShloMosaic.Lib.ValueLayout
@[expose] public section

/-!
# One block of the attention kernel

What the kernel's body stores, read at an index: query `a` of the block, lane `c`. The block's rows of packed words are
numbered query by query: neighbour `j` of query `a` is row `32 a + j`.
-/

namespace Cert.Proof.Attn
open Idealize.ShloMosaic Idealize.ShloMosaic.ValueIdx Cert.AttendIdeal Cert.AttendIdeal.Gen
open scoped BigOperators

noncomputable section

/-- The row of a query's neighbour. -/
def row (a : Fin 128) (j : Fin 32) : Fin 4096 := ⟨32 * a.val + j.val, by omega⟩

/-! ## Layout -/

/-- Two leading axes merged: the row of a query's neighbour. -/
theorem merge_at {α : Type} {n : ℕ} (x : (⟨3, ![128, 32, n]⟩ : Shape).Idx → α)
    (h : (⟨3, ![128, 32, n]⟩ : Shape).ShapeCasts ⟨2, ![4096, n]⟩) (a : Fin 128) (j : Fin 32) (m : Fin n) :
    shapeCast ⟨2, ![4096, n]⟩ x h (ix2 (row a j) m) = x (ix3 a j m) :=
  shapeCast_apply _ _ _ _ (by
    rw [Shape.rowMajor_val_three, Shape.rowMajor_val_two]
    show (a.val * 32 + j.val) * n + m.val = (32 * a.val + j.val) * n + m.val
    rw [Nat.mul_comm a.val 32])

/-- The leading axis split into queries and neighbours. -/
theorem split_at {α : Type} {n : ℕ} (x : (⟨2, ![4096, n]⟩ : Shape).Idx → α)
    (h : (⟨2, ![4096, n]⟩ : Shape).ShapeCasts ⟨3, ![128, 32, n]⟩) (a : Fin 128) (j : Fin 32) (m : Fin n) :
    shapeCast ⟨3, ![128, 32, n]⟩ x h (ix3 a j m) = x (ix2 (row a j) m) :=
  shapeCast_apply _ _ _ _ (by
    rw [Shape.rowMajor_val_three, Shape.rowMajor_val_two]
    show (32 * a.val + j.val) * n + m.val = (a.val * 32 + j.val) * n + m.val
    rw [Nat.mul_comm a.val 32])

/-- A unit axis put in the middle. -/
theorem unitMid_at {α : Type} {p n : ℕ} (x : (⟨2, ![p, n]⟩ : Shape).Idx → α)
    (h : (⟨2, ![p, n]⟩ : Shape).ShapeCasts ⟨3, ![p, 1, n]⟩) (a : Fin p) (m : Fin n) :
    shapeCast ⟨3, ![p, 1, n]⟩ x h (ix3 a 0 m) = x (ix2 a m) :=
  shapeCast_apply _ _ _ _ (by
    rw [Shape.rowMajor_val_three, Shape.rowMajor_val_two]
    show a.val * n + m.val = (a.val * 1 + 0) * n + m.val
    rw [Nat.mul_one, Nat.add_zero])

/-- A middle unit axis repeated. -/
theorem repeatMid_at {α : Type} {p b n : ℕ} (hp : p ≠ 1) (hn : n ≠ 1) (x : (⟨3, ![p, 1, n]⟩ : Shape).Idx → α)
    (h : (⟨3, ![p, 1, n]⟩ : Shape).Broadcasts ⟨3, ![p, b, n]⟩) (a : Fin p) (j : Fin b) (m : Fin n) :
    broadcastTo ⟨3, ![p, b, n]⟩ x h (ix3 a j m) = x (ix3 a 0 m) :=
  broadcastTo_apply _ _ _ _ fun
    | ⟨0, _⟩ => (if_neg (show ¬ p = 1 from hp)).symm
    | ⟨1, _⟩ => rfl
    | ⟨2, _⟩ => (if_neg (show ¬ n = 1 from hn)).symm

/-- A product of two matrices into zero, at an entry. -/
theorem matmul_at {M K N : ℕ} (d : DotDims ⟨2, ![M, K]⟩ ⟨2, ![K, N]⟩ ⟨2, ![M, N]⟩) (hd : d = DotDims.plain M K N)
    (x : FVec Ideal ⟨2, ![M, K]⟩ .f32) (y : FVec Ideal ⟨2, ![K, N]⟩ .f32) (r : Fin M) (c : Fin N) :
    matmul d none x y (constant ⟨2, ![M, N]⟩ .f32 0x00000000#32) (ix2 r c) = ∑ k : Fin K, x (ix2 r k) * y (ix2 k c) := by
  subst hd
  refine (Ideal.matmul_plain_apply none x y _ r c).trans ?_
  show Ideal.ofBits .f32 0x00000000#32 + _ = _
  rw [Ideal.ofBits_zero_f32, zero_add]

/-- A row's lanes exchanged within their pairs, by two rotations of the row and a choice by parity. -/
theorem swap_at {M : ℕ} (x : FVec Ideal ⟨2, ![M, 512]⟩ .f32)
    (h1 : (⟨2, ![M, 512]⟩ : Shape).Slices ![0, 1] ⟨2, ![M, 511]⟩) (h2 : (⟨2, ![M, 512]⟩ : Shape).Slices ![0, 0] ⟨2, ![M, 1]⟩)
    (h3 : (⟨2, ![M, 512]⟩ : Shape).Slices ![0, 511] ⟨2, ![M, 1]⟩) (h4 : (⟨2, ![M, 512]⟩ : Shape).Slices ![0, 0] ⟨2, ![M, 511]⟩)
    (k1 : Shape.Concatenates [⟨2, ![M, 511]⟩, ⟨2, ![M, 1]⟩] ⟨2, ![M, 512]⟩ 1)
    (k2 : Shape.Concatenates [⟨2, ![M, 1]⟩, ⟨2, ![M, 511]⟩] ⟨2, ![M, 512]⟩ 1)
    (s : BitVec 1) (r : Fin M) (c : Fin 512) (hs : s = BitVec.ofBool (decide (c.val % 2 = 0))) :
    (if s = 1#1 then
        concatenate ⟨2, ![M, 512]⟩ 1 [⟨⟨2, ![M, 511]⟩, extractStridedSlice ⟨2, ![M, 511]⟩ ![0, 1] x h1⟩,
          ⟨⟨2, ![M, 1]⟩, extractStridedSlice ⟨2, ![M, 1]⟩ ![0, 0] x h2⟩] k1 (ix2 r c)
      else
        concatenate ⟨2, ![M, 512]⟩ 1 [⟨⟨2, ![M, 1]⟩, extractStridedSlice ⟨2, ![M, 1]⟩ ![0, 511] x h3⟩,
          ⟨⟨2, ![M, 511]⟩, extractStridedSlice ⟨2, ![M, 511]⟩ ![0, 0] x h4⟩] k2 (ix2 r c)) = x (ix2 r (mate c)) := by
  subst hs
  by_cases e : c.val % 2 = 0
  · rw [if_pos (by simp [e]), concatenate_pair_apply_left (s₁ := ⟨2, ![M, 511]⟩) (s₂ := ⟨2, ![M, 1]⟩) (1 : Fin 2) _ _ k1 (ix2 r c) rfl (ix2 r (⟨c.val, by omega⟩ : Fin 511))
      (fun | ⟨0, _⟩ => rfl | ⟨1, _⟩ => rfl)]
    refine extractStridedSlice_apply _ _ _ _ _ fun | ⟨0, _⟩ => (Nat.zero_add _).symm | ⟨1, _⟩ => ?_
    show (mate c).val = 1 + c.val
    unfold mate; rw [dif_pos e]; simp only; omega
  · rw [if_neg (by simp [e]), concatenate_pair_apply_right (s₁ := ⟨2, ![M, 1]⟩) (s₂ := ⟨2, ![M, 511]⟩) (1 : Fin 2) _ _ k2 (ix2 r c) rfl rfl (ix2 r (⟨c.val - 1, by omega⟩ : Fin 511))
      (fun | ⟨0, _⟩ => fun _ => rfl | ⟨1, _⟩ => fun h => absurd rfl h) (show c.val - 1 + 1 = c.val by omega)]
    refine extractStridedSlice_apply _ _ _ _ _ fun | ⟨0, _⟩ => (Nat.zero_add _).symm | ⟨1, _⟩ => ?_
    show (mate c).val = 0 + (c.val - 1)
    unfold mate; rw [dif_neg e]; simp only; omega

/-! ## The rotation's tables -/

/-- The angle of query `a`, neighbour `j`, frequency `m`. -/
theorem pay6_at (x2 : FVec Ideal S1x128x32 .f32) (x3 : FVec Ideal S1x16 .f32) (a : Fin 128) (m : Fin 16) (j : Fin 32) :
    k0_pay6 (F := Ideal) x2 x3 (ix3 a m j) = angle (x2 (ix3 0 a j)) (x3 (ix2 0 m)) := by
  show FloatOps.mulf (broadcastTo S128x16x32 (mulf (shapeCast S128x1x32 (shapeCast S128x32 x2 _) _) (broadcast S128x1x32 _)) _ _)
    (broadcastTo S128x16x32 (shapeCast S1x16x1 (shapeCast S16 x3 _) _) _ _) = _
  rw [repeatMid_at (by decide) (by decide)]
  rw [broadcastTo_apply _ _ (ix3 a m j) (ix3 (0 : Fin 1) m (0 : Fin 1)) (fun | ⟨0, _⟩ => rfl | ⟨1, _⟩ => rfl | ⟨2, _⟩ => rfl)]
  rw [shapeCast_apply _ _ (ix3 (0 : Fin 1) m (0 : Fin 1)) (ix1 m) (by
    rw [Shape.rowMajor_val_one, Shape.rowMajor_val_three]; show m.val = (0 * 16 + m.val) * 1 + 0; omega)]
  rw [shapeCast_1a_a_apply]
  show (shapeCast S128x1x32 (shapeCast S128x32 x2 _) _ (ix3 a 0 j) * _) * _ = _
  rw [unitMid_at, shapeCast_1ab_ab_apply]
  rfl

/-- The cosine of the angle, by rows. -/
theorem pay7_at (x2 : FVec Ideal S1x128x32 .f32) (x3 : FVec Ideal S1x16 .f32) (a : Fin 128) (j : Fin 32) (m : Fin 16) :
    k0_pay7 (F := Ideal) x2 x3 (ix2 (row a j) m) = Ideal.cos (angle (x2 (ix3 0 a j)) (x3 (ix2 0 m))) := by
  show shapeCast S4096x16 (transpose S128x32x16 [0, 2, 1] (cos (k0_pay6 (F := Ideal) x2 x3)) _) _ _ = _
  rw [merge_at, transpose_ix3_021_apply, ← pay6_at]
  rfl

/-- The sine of the angle, by rows. -/
theorem pay8_at (x2 : FVec Ideal S1x128x32 .f32) (x3 : FVec Ideal S1x16 .f32) (a : Fin 128) (j : Fin 32) (m : Fin 16) :
    k0_pay8 (F := Ideal) x2 x3 (ix2 (row a j) m) = Ideal.sin (angle (x2 (ix3 0 a j)) (x3 (ix2 0 m))) := by
  show shapeCast S4096x16 (transpose S128x32x16 [0, 2, 1] (sin (k0_pay6 (F := Ideal) x2 x3)) _) _ _ = _
  rw [merge_at, transpose_ix3_021_apply, ← pay6_at]
  rfl

/-- The mask of the table of cosines as a float. -/
theorem pay15_at (m : Fin 16) (c : Fin 512) : k0_pay15 (F := Ideal) by64 k0_pay9 k0_pay10 k0_pay11 k0_pay12 (ix2 m c)
    = if c.val % 64 < 32 ∧ freqOf c = m then (1 : EReal) else 0 := by
  show FloatOps.sitofp (F := Ideal) .f32 ((k0_pay14 by64 k0_pay9 k0_pay10 k0_pay11 k0_pay12 (ix2 m c)).setWidth 32) = _
  rw [pay14_at, maskFloat]
  simp

/-- The cosine of each lane, by rows. -/
theorem pay19_at (v : FVec Ideal S4096x16 .f32) (r : Fin 4096) (c : Fin 512) :
    k0_pay19 (F := Ideal) v (k0_pay15 by64 k0_pay9 k0_pay10 k0_pay11 k0_pay12) (ix2 r c)
      = if c.val % 64 < 32 then v (ix2 r (freqOf c)) else 1 := by
  show matmul dot_S4096x16_S16x512_S4096x512_1_0_0_1_n_n none v _ (constant S4096x512 .f32 0x00000000#32) (ix2 r c)
    + broadcastTo S4096x512 _ _ (ix2 r c) = _
  rw [matmul_at dot_S4096x16_S16x512_S4096x512_1_0_0_1_n_n rfl, broadcastTo_1b_ab_apply]
  have hp : ∀ w, w = BitVec.ofBool (decide (¬ c.val % 64 < 32)) →
      FloatOps.sitofp (F := Ideal) .f32 (BitVec.setWidth 32 w) = if c.val % 64 < 32 then (0 : EReal) else 1 := fun w h => by
    rw [h, maskFloat]; by_cases e : c.val % 64 < 32 <;> simp [e]
  refine (congrArg (_ + ·) (hp _ (plain_at c))).trans ?_
  simp only [pay15_at]
  by_cases e : c.val % 64 < 32
  · simp [e]
  · simp [e]

/-- The signed sine of each lane, by rows. -/
theorem pay20_at (v : FVec Ideal S4096x16 .f32) (r : Fin 4096) (c : Fin 512) :
    k0_pay20 (F := Ideal) v (k0_pay14 by64 k0_pay9 k0_pay10 k0_pay11 k0_pay12) by2 (k0_pay16 by64 k0_pay9 k0_pay10 k0_pay11 k0_pay12)
        (k0_pay17 by64 k0_pay9 k0_pay10 k0_pay11 k0_pay12) (k0_pay18 by64 k0_pay9 k0_pay10 k0_pay11 k0_pay12)
        (Scalar.cmpi .slt by2 0#32) (ix2 r c)
      = if c.val % 64 < 32 then (if c.val % 2 = 0 then -v (ix2 r (freqOf c)) else v (ix2 r (freqOf c))) else 0 := by
  show matmul dot_S4096x16_S16x512_S4096x512_1_0_0_1_n_n none v (select _ _ _) (constant S4096x512 .f32 0x00000000#32) (ix2 r c) = _
  rw [matmul_at dot_S4096x16_S16x512_S4096x512_1_0_0_1_n_n rfl]
  have hw : ∀ m : Fin 16, ∀ p q : BitVec 1, p = BitVec.ofBool (decide (c.val % 64 < 32 ∧ freqOf c = m)) →
      q = BitVec.ofBool (decide (c.val % 2 = 0)) →
      (if IntOp.andi p q = 1#1 then Ideal.ofBits .f32 0xBF800000#32 else if p = 1#1 then Ideal.ofBits .f32 0x3F800000#32 else Ideal.ofBits .f32 0x00000000#32)
        = if c.val % 64 < 32 ∧ freqOf c = m then (if c.val % 2 = 0 then (-1 : EReal) else 1) else 0 := fun m p q hp hq => by
    have hn : Ideal.ofBits .f32 0xBF800000#32 = -1 := by
      rw [show (-1 : EReal) = ((-(1 : ℝ) : ℝ) : EReal) by rw [EReal.coe_neg, EReal.coe_one]]
      simp [Ideal.ofBits, Ideal.ieee, -EReal.coe_mul, -EReal.coe_neg]; norm_num
    subst hp hq
    rw [hn, Ideal.ofBits_one_f32, Ideal.ofBits_zero_f32]
    by_cases h1 : c.val % 64 < 32 ∧ freqOf c = m <;> by_cases h2 : c.val % 2 = 0 <;> simp [h1, h2, IntOp.andi]
  refine (Finset.sum_congr rfl fun m _ => congrArg (v (ix2 r m) * ·)
    (hw m _ _ (pay14_at m c) ((congrArg (fun w => IntOp.cmpi .eq (floorMod w 2#32) 0#32) (pay13_at m c)).trans (parity_at c)))).trans ?_
  by_cases e : c.val % 64 < 32 <;> by_cases e2 : c.val % 2 = 0 <;> simp [e, e2]

end
end Cert.Proof.Attn
-- ==== Proof.AttnBody.lean ====
module
public import proofs.«01_k».proof.Proof.AttnBlock
@[expose] public section

/-!
# What the attention kernel's body stores

The scores, the softmax and the weighted sum of one block, read at an index, and the whole body: query `a`, lane `c` of
the stored block is `attSwapped` of the query's row, its neighbours' packed words, its distances and the frequencies.
-/

namespace Cert.Proof.Attn
open Idealize.ShloMosaic Idealize.ShloMosaic.ValueIdx Cert.AttendIdeal Cert.AttendIdeal.Gen
open scoped BigOperators

noncomputable section

/-! ## Keys, values and the products of the scores -/

/-- The keys of a block. -/
theorem pay4_at (x1 : IVec S1x4096x512 32) (r : Fin 4096) (c : Fin 512) :
    k0_pay4 (F := Ideal) x1 (ix2 r c) = key (x1 (ix3 0 r c)) := by
  show Ideal.ofBits .f32 (IntOp.andi (shapeCast S4096x512 x1 _ (ix2 r c)) 4294901760#32) = _
  rw [shapeCast_1ab_ab_apply]
  rfl

/-- The values of a block. -/
theorem pay5_at (x1 : IVec S1x4096x512 32) (r : Fin 4096) (c : Fin 512) :
    k0_pay5 (F := Ideal) x1 (ix2 r c) = value (x1 (ix3 0 r c)) := by
  show Ideal.ofBits .f32 (IntOp.shli .vector (shapeCast S4096x512 x1 _ (ix2 r c)) 16#32) = _
  rw [shapeCast_1ab_ab_apply]
  rfl

/-- The product of a key with the query turned by its neighbour's angles, lane by lane. -/
theorem pay22_at (v1 : FVec Ideal S128x512 .f32) (v8 v122 v123 : FVec Ideal S4096x512 .f32) (a : Fin 128) (j : Fin 32) (c : Fin 512) :
    k0_pay22 (F := Ideal) v1 v8 v122 v123 (iota .tc S128x512 32 [1] iota_S128x512_d1_w32) by2 k0_pay21 (ix2 (row a j) c)
      = v8 (ix2 (row a j) c) * (v1 (ix2 a c) * v122 (ix2 (row a j) c) - v1 (ix2 a (mate c)) * v123 (ix2 (row a j) c)) := by
  show v8 (ix2 (row a j) c) * (shapeCast S4096x512 (broadcastTo S128x32x512 (shapeCast S128x1x512 (shapeCast S128x1x512 v1 _) _) _) _ (ix2 (row a j) c)
      * v122 (ix2 (row a j) c)
    - shapeCast S4096x512 (broadcastTo S128x32x512 (shapeCast S128x1x512 (shapeCast S128x1x512 (select _ _ _) _) _) _) _ (ix2 (row a j) c)
      * v123 (ix2 (row a j) c)) = _
  rw [merge_at, merge_at, repeatMid_at (by decide) (by decide), repeatMid_at (by decide) (by decide)]
  rw [shapeCast_apply _ shapeCasts_S128x1x512_S128x1x512 (ix3 a 0 c) (ix3 a 0 c) rfl,
    shapeCast_apply _ shapeCasts_S128x1x512_S128x1x512 (ix3 a 0 c) (ix3 a 0 c) rfl, unitMid_at, unitMid_at]
  exact congrArg (fun z => v8 (ix2 (row a j) c) * (v1 (ix2 a c) * v122 (ix2 (row a j) c) - z * v123 (ix2 (row a j) c)))
    (swap_at v1 _ _ _ _ _ _ _ a c (evenLane_at c))

/-! ## The scores and their softmax -/

/-- The mask of the heads as a float. -/
def headMask : FVec Ideal S512x8 .f32 :=
  sitofp .f32 (extui 32 (cmpi .eq (select (andi k0_pay24 (cmpi .ne (remsi (iota .tc S512x8 32 [0] iota_S512x8_d0_w32) (broadcast S512x8 64#32))
    (broadcast S512x8 0#32))) (subi k0_pay23 (broadcast S512x8 1#32)) k0_pay23) (iota .tc S512x8 32 [1] iota_S512x8_d1_w32)) natLt_1_32)

/-- It marks each head's lanes. -/
theorem headMask_at (c : Fin 512) (h : Fin 8) : headMask (ix2 c h) = if head c = h then (1 : EReal) else 0 :=
  ((show headMask (ix2 c h) = FloatOps.sitofp (F := Ideal) .f32
      ((IntOp.cmpi .eq (headWord c) (BitVec.ofNat 32 (0 * 8 + h.val))).setWidth 32) from rfl).trans
    (congrArg (fun w => FloatOps.sitofp (F := Ideal) .f32 (BitVec.setWidth 32 w)) (head_at c h))).trans
    ((maskFloat _).trans (by simp))

/-- A lane as its head and its place. -/
def laneEquiv : Fin 8 × Fin 64 ≃ Fin 512 where
  toFun p := lane p.1 p.2
  invFun c := (head c, ⟨c.val % 64, Nat.mod_lt _ (by decide)⟩)
  left_inv p := by
    refine Prod.ext (Fin.ext ?_) (Fin.ext ?_)
    · show (64 * p.1.val + p.2.val) / 64 = p.1.val; omega
    · show (64 * p.1.val + p.2.val) % 64 = p.2.val; omega
  right_inv c := Fin.ext (show 64 * (c.val / 64) + c.val % 64 = c.val by omega)

/-- A sum over all lanes under one head's mask is the sum over the head's lanes. -/
theorem sum_head (f : Fin 512 → EReal) (h : Fin 8) :
    ∑ c : Fin 512, f c * (if head c = h then (1 : EReal) else 0) = ∑ d : Fin 64, f (lane h d) := by
  rw [← Equiv.sum_comp laneEquiv, Fintype.sum_prod_type]
  have hh : ∀ (g : Fin 8) (d : Fin 64), head (lane g d) = g := fun g d => congrArg Prod.fst (laneEquiv.left_inv (g, d))
  show ∑ g : Fin 8, ∑ d : Fin 64, f (lane g d) * (if head (lane g d) = h then (1 : EReal) else 0) = _
  simp only [hh]
  rw [Finset.sum_eq_single h (fun g _ hg => by simp [hg]) (fun hn => absurd (Finset.mem_univ h) hn)]
  simp

/-- The scores of a block before the softmax. -/
def scoresOf (p : FVec Ideal S4096x512 .f32) : FVec Ideal S128x32x8 .f32 :=
  shapeCast S128x32x8 (mulf (matmul dot_S4096x512_S512x8_S4096x8_1_0_0_1_n_n none p headMask (constant S4096x8 .f32 0x00000000#32))
    (broadcast S4096x8 (Scalar.ofBits .f32 0x3E000000#32))) shapeCasts_S4096x8_S128x32x8

/-- Each score is the sum of the products over its head's lanes, scaled. -/
theorem scoresOf_at (p : FVec Ideal S4096x512 .f32) (a : Fin 128) (j : Fin 32) (h : Fin 8) :
    scoresOf p (ix3 a j h) = (∑ d : Fin 64, p (ix2 (row a j) (lane h d))) * eighth := by
  unfold scoresOf
  rw [split_at]
  show matmul dot_S4096x512_S512x8_S4096x8_1_0_0_1_n_n none p headMask (constant S4096x8 .f32 0x00000000#32) (ix2 (row a j) h) * eighth = _
  rw [matmul_at dot_S4096x512_S512x8_S4096x8_1_0_0_1_n_n rfl]
  simp only [headMask_at]
  rw [sum_head]

/-- The largest score of each query and head. -/
def topsOf (s : FVec Ideal S128x32x8 .f32) : FVec Ideal S128x8 .f32 :=
  multiReduction .maximumf [1] S128x8 s 0xFF800000#32 reduces_S128x32x8_S128x8 (.inl rfl) rfl

/-- It is `top` of the 32 scores. -/
theorem topsOf_at (s : FVec Ideal S128x32x8 .f32) (a : Fin 128) (h : Fin 8) : topsOf s (ix2 a h) = top fun j => s (ix3 a j h) := by
  unfold topsOf
  refine (Ideal.multiReduction_maximumf_single s 0xFF800000#32 reduces_S128x32x8_S128x8 (.inl rfl) rfl (ix2 a h)).trans ?_
  unfold top
  have hb : (FloatOps.ofBits .f32 0xFF800000#32 : Ideal .f32) = (⊥ : EReal) := by
    show Ideal.ofBits .f32 0xFF800000#32 = ⊥
    simp [Ideal.ofBits, Ideal.ieee]
  rw [hb]
  refine congrArg (Finset.univ.fold max (⊥ : EReal)) (funext fun j => congrArg s (funext fun b => Fin.ext ?_))
  match b with
  | ⟨0, _⟩ => rfl
  | ⟨1, _⟩ => rfl
  | ⟨2, _⟩ => rfl

/-- A sum over the neighbours. -/
theorem sumMid_at {n : ℕ} (x : FVec Ideal ⟨3, ![128, 32, n]⟩ .f32) (h : (⟨3, ![128, 32, n]⟩ : Shape).Reduces [1] ⟨2, ![128, n]⟩)
    (hφ : FKind.Formats .f32) (hacc : (0x00000000#32 : BitVec 32) = FKind.add.neutral .f32 hφ) (a : Fin 128) (c : Fin n) :
    multiReduction .add [1] ⟨2, ![128, n]⟩ x 0x00000000#32 h hφ hacc (ix2 a c) = ∑ j : Fin 32, x (ix3 a j c) := by
  refine (Ideal.multiReduction_add_single x _ h hφ hacc (ix2 a c)).trans ?_
  refine Finset.sum_congr rfl fun j _ => congrArg x (funext fun b => Fin.ext ?_)
  match b with
  | ⟨0, _⟩ => rfl
  | ⟨1, _⟩ => rfl
  | ⟨2, _⟩ => rfl

/-- The exponentials of the scores less the largest. -/
def expsOf (s : FVec Ideal S128x32x8 .f32) : FVec Ideal S128x32x8 .f32 :=
  exp (subf s (broadcastTo S128x32x8 (shapeCast S128x1x8 (topsOf s) shapeCasts_S128x8_S128x1x8) broadcasts_S128x1x8_S128x32x8))

/-- Read at an index. -/
theorem expsOf_at (s : FVec Ideal S128x32x8 .f32) (a : Fin 128) (j : Fin 32) (h : Fin 8) :
    expsOf s (ix3 a j h) = Ideal.exp (s (ix3 a j h) - top fun i => s (ix3 a i h)) := by
  show Ideal.exp (s (ix3 a j h) - broadcastTo S128x32x8 (shapeCast S128x1x8 (topsOf s) _) _ (ix3 a j h)) = _
  rw [repeatMid_at (by decide) (by decide), unitMid_at, topsOf_at]

/-- The softmax of the scores. -/
def weightsOf (s : FVec Ideal S128x32x8 .f32) : FVec Ideal S128x32x8 .f32 :=
  divf (expsOf s) (broadcastTo S128x32x8 (shapeCast S128x1x8
    (multiReduction .add [1] S128x8 (expsOf s) 0x00000000#32 reduces_S128x32x8_S128x8 (.inl rfl) rfl) shapeCasts_S128x8_S128x1x8) broadcasts_S128x1x8_S128x32x8)

/-- Read at an index. -/
theorem weightsOf_at (s : FVec Ideal S128x32x8 .f32) (a : Fin 128) (j : Fin 32) (h : Fin 8) :
    weightsOf s (ix3 a j h) = softmax (fun i => s (ix3 a i h)) j := by
  show Ideal.div (expsOf s (ix3 a j h)) (broadcastTo S128x32x8 (shapeCast S128x1x8 (multiReduction .add [1] S128x8 (expsOf s) _ _ _ _) _) _ (ix3 a j h)) = _
  rw [repeatMid_at (by decide) (by decide), unitMid_at]
  refine (congrArg (Ideal.div _) (sumMid_at _ reduces_S128x32x8_S128x8 (.inl rfl) rfl a h)).trans ?_
  simp only [expsOf_at]
  rfl

/-- Each lane's weight: its head's. -/
theorem pay25_at (p : FVec Ideal S4096x512 .f32) (a : Fin 128) (j : Fin 32) (c : Fin 512) :
    k0_pay25 (F := Ideal) p (iota .tc S512x8 32 [0] iota_S512x8_d0_w32) 64#32 k0_pay23 k0_pay24 (ix2 (row a j) c)
      = softmax (fun i => (∑ d : Fin 64, p (ix2 (row a i) (lane (head c) d))) * eighth) j := by
  show matmul dot_S4096x8_S8x512_S4096x512_1_0_0_1_n_n none (shapeCast S4096x8 (weightsOf (scoresOf p)) shapeCasts_S128x32x8_S4096x8)
    (transpose S8x512 [1, 0] headMask transposes_S512x8_p1_0_S8x512) (constant S4096x512 .f32 0x00000000#32) (ix2 (row a j) c) = _
  rw [matmul_at dot_S4096x8_S8x512_S4096x512_1_0_0_1_n_n rfl]
  have ht : ∀ h : Fin 8, transpose S8x512 [1, 0] headMask transposes_S512x8_p1_0_S8x512 (ix2 h c) = if head c = h then (1 : EReal) else 0 :=
    fun h => (transpose_ix2_apply _ _ _ _).trans (headMask_at c h)
  simp only [ht, merge_at, weightsOf_at, scoresOf_at]
  simp

/-- The weighted sum of the turned values. -/
theorem pay1_at (v11 v122 v123 v206 : FVec Ideal S4096x512 .f32) (a : Fin 128) (c : Fin 512) :
    k0_pay1 (F := Ideal) v11 v122 v123 v206 k0_pay26 k0_pay27 (ix3 0 a c)
      = ∑ j : Fin 32, ((v206 (ix2 (row a j) c) * v122 (ix2 (row a j) c)) * v11 (ix2 (row a j) c)
          + (v206 (ix2 (row a j) c) * v123 (ix2 (row a j) c)) * v11 (ix2 (row a j) (mate c))) := by
  show shapeCast S1x128x512 (multiReduction .add [1] S128x512 (shapeCast S128x32x512 (addf (mulf (mulf v206 v122) v11)
    (mulf (mulf v206 v123) (select _ _ _))) _) _ _ _ _) _ (ix3 0 a c) = _
  rw [shapeCast_ab_1ab_apply]
  refine (sumMid_at _ reduces_S128x32x512_S128x512 (.inl rfl) rfl a c).trans ?_
  refine Finset.sum_congr rfl fun j _ => ?_
  rw [split_at]
  exact congrArg (fun z => (v206 (ix2 (row a j) c) * v122 (ix2 (row a j) c)) * v11 (ix2 (row a j) c)
    + (v206 (ix2 (row a j) c) * v123 (ix2 (row a j) c)) * z) (swap_at v11 _ _ _ _ _ _ _ (row a j) c (evenLane_at c))

/-! ## The whole body -/

/-- A load of a whole buffer reads its contents. -/
theorem ld_whole {S : Shape} {e : EltTy} {Val : EltTy → Type} {off : Fin S.rank → ℕ} (inb : ∀ a, off a + S.size a ≤ S.size a)
    (X : S.Idx → Val e) : View.ld X (Rect.unit off S.size inb) = X :=
  View.ld_unit_zero (funext fun a => by have := inb a; omega) inb X

/-- One store of a whole buffer leaves its payload. -/
theorem canon_whole {S : Shape} {e : EltTy} {Val : EltTy → Type} [∀ e, Nonempty (Val e)] {off : Fin S.rank → ℕ}
    (inb : ∀ a, off a + S.size a ≤ S.size a) (w : S.Idx → Val e) :
    View.canon [(⟨Rect.unit off S.size inb, w⟩ : View.Piece Val S e)] = w :=
  View.canon_unit_zero (funext fun a => by have := inb a; omega) inb w

/-- What the body stores for query `a` of its block, lane `c`. -/
theorem body_at (x0 : FVec Ideal S1x128x512 .f32) (x1 : IVec S1x4096x512 32) (x2 : FVec Ideal S1x128x32 .f32) (x3 : FVec Ideal S1x16 .f32)
    (a : Fin 128) (c : Fin 512) : out0_4 (F := Ideal) x0 x1 x2 x3 (ix3 0 a c)
      = attSwapped (fun l => x0 (ix3 0 a l)) (fun j l => x1 (ix3 0 (row a j) l)) (fun j => x2 (ix3 0 a j)) (fun m => x3 (ix2 0 m)) c := by
  have hcos : ∀ j l, k0_pay32 (F := Ideal) x0 x1 x2 x3 (ix2 (row a j) l) = cosLane (fun m => angle (x2 (ix3 0 a j)) (x3 (ix2 0 m))) l := fun j l => by
    unfold k0_pay32 k0_pay28 k0_pay29 k0_pay30 k0_pay31
    rw [pay19_at, ld_whole, ld_whole, pay7_at]
    rfl
  have hsin : ∀ j l, k0_pay33 (F := Ideal) x0 x1 x2 x3 (ix2 (row a j) l) = sinLane (fun m => angle (x2 (ix3 0 a j)) (x3 (ix2 0 m))) l := fun j l => by
    unfold k0_pay33 k0_pay28 k0_pay29 k0_pay30 k0_pay31
    rw [pay20_at, ld_whole, ld_whole, pay8_at]
    rfl
  unfold out0_4
  rw [canon_whole, ld_whole, ld_whole, pay1_at]
  unfold attSwapped scoreSwapped
  have hq : ∀ l, k0_pay2 (F := Ideal) x0 (ix2 a l) = x0 (ix3 0 a l) := fun l => shapeCast_1ab_ab_apply _ _ _ _
  have hp : ∀ i l, k0_pay22 (F := Ideal) (k0_pay2 x0) (k0_pay4 x1) (k0_pay32 x0 x1 x2 x3) (k0_pay33 x0 x1 x2 x3)
      (iota .tc S128x512 32 [1] iota_S128x512_d1_w32) by2 k0_pay21 (ix2 (row a i) l)
      = key (x1 (ix3 0 (row a i) l)) * (x0 (ix3 0 a l) * cosLane (fun m => angle (x2 (ix3 0 a i)) (x3 (ix2 0 m))) l
        - x0 (ix3 0 a (mate l)) * sinLane (fun m => angle (x2 (ix3 0 a i)) (x3 (ix2 0 m))) l) := fun i l => by
    rw [pay22_at, pay4_at, hq, hq, hcos, hsin]
  refine Finset.sum_congr rfl fun j _ => ?_
  simp only [pay5_at, hcos, hsin]
  exact congrArg (fun w : EReal => w * cosLane (fun m => angle (x2 (ix3 0 a j)) (x3 (ix2 0 m))) c * value (x1 (ix3 0 (row a j) c))
      + w * sinLane (fun m => angle (x2 (ix3 0 a j)) (x3 (ix2 0 m))) c * value (x1 (ix3 0 (row a j) (mate c))))
    ((pay25_at _ a j c).trans (congrArg (fun s => softmax s j) (funext fun i => congrArg (· * eighth)
      (Finset.sum_congr rfl fun d _ => hp i _))))

end
end Cert.Proof.Attn
-- ==== Proof.AttnArray.lean ====
module

public import proofs.«01_k».proof.Proof.AttnBody
public import proofs.«01_k».proof.Proof.Gen.AttendIdeal.Value
public import Idealize.ShloMosaic.Lib.Claim

@[expose] public section

/-! The attention call's result as an array. The grid has eight points; point `t` takes the queries `128 t … 128 t + 127`
of the query array and of the distances, the `4096` gathered rows that belong to them, and all sixteen frequencies,
and writes its `128` rows of the result. -/

noncomputable section

namespace Cert.Proof.Attn

open Idealize.ShloMosaic Idealize.ShloMosaic.TcCoe Idealize.SL Idealize.SL.Sem ValueIdx
open Cert.AttendIdeal Cert.AttendIdeal.Gen

variable (m : (ℓ : Loc nD τ sig) → Buf (Elt Ideal) ℓ) (c : Dev nD)

/-- Where the blocks of the five windows lie: along the second axis by the point, elsewhere at the beginning. -/
theorem block_starts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = t.val ∧ win0_4.index t (2 : Fin 3) = 0) :=
  (by decide +kernel : ∀ t : Fin grid0.N, _)

/-- Query `a` of point `t`. -/
def query (t : Fin cfg0.N) (a : Fin 128) : Fin 1024 :=
  ⟨128 * t.val + a.val, by have h : t.val < 8 := t.isLt; omega⟩

/-- The gathered row of the query's neighbour `j`. -/
def gathered (n : Fin 1024) (j : Fin 32) : Fin 32768 := ⟨32 * n.val + j.val, by omega⟩

/-- The gathered words as the call receives them: under one leading axis. -/
theorem words_at (x : Fin 32768) (l : Fin 512) :
    V m c main_v1 (ix3 0 x l) = m ((c : Thread nD τ).loc main_arg1) (ix2 x l) := by
  have h : V m c main_v1 = shapeCast S1x32768x512 (m ((c : Thread nD τ).loc main_arg1)) shapeCasts_S32768x512_S1x32768x512 := by
    entry_read
    rfl
  rw [h]
  exact shapeCast_ab_1ab_apply _ _ _ x l

/-- The frequencies as the call receives them: as one row. -/
theorem freqs_at (k : Fin 16) :
    V m c main_v0 (ix2 0 k) = m ((c : Thread nD τ).loc main_arg3) (ix1 k) := by
  have h : V m c main_v0 = broadcastInDim S1x16 ![1] bcast_S16_S1x16_1 (m ((c : Thread nD τ).loc main_arg3)) := by
    entry_read
    rfl
  rw [h]
  exact broadcastInDim_apply (s := S16) _ _ _ _ _ (fun (a : Fin 1) => by
    obtain rfl : a = 0 := Subsingleton.elim _ _
    rfl)

theorem queries_block (t : Fin cfg0.N) (a : Fin 128) (l : Fin 512) :
    iblk m c 0 t (ix3 0 a l) = m ((c : Thread nD τ).loc main_arg0) (ix3 0 (query t a) l) := by
  obtain ⟨⟨e0, e1, e2⟩, -⟩ := block_starts t
  show V m c main_arg0 (((cfg0.win 0).blk t).view.emb (ix3 0 a l)) = _
  rw [V_main_arg0]
  congr 1
  funext x; apply Fin.ext
  match x with
  | ⟨0, _⟩ => show win0_0.index t (0 : Fin 3) * 1 + 1 * 0 = 0; omega
  | ⟨1, _⟩ => show win0_0.index t (1 : Fin 3) * 128 + 1 * a.val = 128 * t.val + a.val; omega
  | ⟨2, _⟩ => show win0_0.index t (2 : Fin 3) * 512 + 1 * l.val = l.val; omega

theorem words_block (t : Fin cfg0.N) (a : Fin 128) (j : Fin 32) (l : Fin 512) :
    iblk m c 1 t (ix3 0 (row a j) l) = m ((c : Thread nD τ).loc main_arg1) (ix2 (gathered (query t a) j) l) := by
  obtain ⟨-, ⟨e0, e1, e2⟩, -⟩ := block_starts t
  refine Eq.trans ?_ (words_at m c _ l)
  show V m c main_v1 (((cfg0.win 1).blk t).view.emb (ix3 0 (row a j) l)) = _
  congr 1
  funext x; apply Fin.ext
  match x with
  | ⟨0, _⟩ => show win0_1.index t (0 : Fin 3) * 1 + 1 * 0 = 0; omega
  | ⟨1, _⟩ =>
    show win0_1.index t (1 : Fin 3) * 4096 + 1 * (32 * a.val + j.val) = 32 * (128 * t.val + a.val) + j.val
    omega
  | ⟨2, _⟩ => show win0_1.index t (2 : Fin 3) * 512 + 1 * l.val = l.val; omega

theorem distances_block (t : Fin cfg0.N) (a : Fin 128) (j : Fin 32) :
    iblk m c 2 t (ix3 0 a j) = m ((c : Thread nD τ).loc main_arg2) (ix3 0 (query t a) j) := by
  obtain ⟨-, -, ⟨e0, e1, e2⟩, -⟩ := block_starts t
  show V m c main_arg2 (((cfg0.win 2).blk t).view.emb (ix3 0 a j)) = _
  rw [V_main_arg2]
  congr 1
  funext x; apply Fin.ext
  match x with
  | ⟨0, _⟩ => show win0_2.index t (0 : Fin 3) * 1 + 1 * 0 = 0; omega
  | ⟨1, _⟩ => show win0_2.index t (1 : Fin 3) * 128 + 1 * a.val = 128 * t.val + a.val; omega
  | ⟨2, _⟩ => show win0_2.index t (2 : Fin 3) * 32 + 1 * j.val = j.val; omega

theorem freqs_block (t : Fin cfg0.N) (k : Fin 16) :
    iblk m c 3 t (ix2 0 k) = m ((c : Thread nD τ).loc main_arg3) (ix1 k) := by
  obtain ⟨-, -, -, ⟨e0, e1⟩, -⟩ := block_starts t
  refine Eq.trans ?_ (freqs_at m c k)
  show V m c main_v0 (((cfg0.win 3).blk t).view.emb (ix2 0 k)) = _
  congr 1
  funext x; apply Fin.ext
  match x with
  | ⟨0, _⟩ => show win0_3.index t (0 : Fin 2) * 1 + 1 * 0 = 0; omega
  | ⟨1, _⟩ => show win0_3.index t (1 : Fin 2) * 16 + 1 * k.val = k.val; omega

/-- Each row of the result is the attention, in the kernel's arrangement, of the query's own data. -/
theorem array_at (n : Fin 1024) (l : Fin 512) :
    (dats m 0 c).arrAt 4 cfg0.N (ix3 0 n l)
      = attSwapped (fun k => m ((c : Thread nD τ).loc main_arg0) (ix3 0 n k))
          (fun j k => m ((c : Thread nD τ).loc main_arg1) (ix2 (gathered n j) k))
          (fun j => m ((c : Thread nD τ).loc main_arg2) (ix3 0 n j))
          (fun k => m ((c : Thread nD τ).loc main_arg3) (ix1 k)) l := by
  obtain ⟨t, a, rfl⟩ : ∃ (t : Fin cfg0.N) (a : Fin 128), n = query t a :=
    ⟨⟨n.val / 128, show n.val / 128 < 8 by omega⟩, ⟨n.val % 128, by omega⟩, Fin.ext (by
      show n.val = 128 * (n.val / 128) + n.val % 128
      omega)⟩
  have b := congrFun (Cert.AttendIdeal.Value.blocks4 m c t (flush0_4 t)) (ix3 0 a l)
  rw [Cert.AttendIdeal.Value.flushed4] at b
  have b' : (dats m 0 c).arrAt 4 cfg0.N (((cfg0.win 4).blk t).view.emb (ix3 0 a l))
      = out0_4 (F := Ideal) (iblk m c 0 t) (iblk m c 1 t) (iblk m c 2 t) (iblk m c 3 t) (ix3 0 a l) := b
  obtain ⟨-, -, -, -, e0, e1, e2⟩ := block_starts t
  have he : ((cfg0.win 4).blk t).view.emb (ix3 0 a l) = ix3 0 (query t a) l := by
    funext x; apply Fin.ext
    match x with
    | ⟨0, _⟩ => show win0_4.index t (0 : Fin 3) * 1 + 1 * 0 = 0; omega
    | ⟨1, _⟩ => show win0_4.index t (1 : Fin 3) * 128 + 1 * a.val = 128 * t.val + a.val; omega
    | ⟨2, _⟩ => show win0_4.index t (2 : Fin 3) * 512 + 1 * l.val = l.val; omega
  rw [he] at b'
  refine b'.trans ((body_at _ _ _ _ a l).trans ?_)
  rw [show (fun k => iblk m c 0 t (ix3 0 a k)) = _ from funext fun k => queries_block m c t a k,
    show (fun j k => iblk m c 1 t (ix3 0 (row a j) k)) = _ from funext fun j => funext fun k => words_block m c t a j k,
    show (fun j => iblk m c 2 t (ix3 0 a j)) = _ from funext fun j => distances_block m c t a j,
    show (fun k => iblk m c 3 t (ix2 0 k)) = _ from funext fun k => freqs_block m c t k]

end Cert.Proof.Attn

end
end
-- ==== Proof.AttnRef.lean ====
module

public import proofs.«01_k».proof.Proof.AttnSpec
public import proofs.«01_k».proof.Proof.Gen.AttendReferenceIdeal.Run
public import Idealize.ShloMosaic.Lib.Pipeline.Value
public import Idealize.ShloMosaic.Lib.Pointwise

@[expose] public section

set_option maxRecDepth 4000

/-!
# The attention reference, read at an index

The reference's operations under names of their own, one per step of the mathematics, and what each holds at an index.
Together: query `n`, lane `c` of the result is `att` of the query's own data.
-/

namespace Cert.Proof.Attn
open Idealize.ShloMosaic hiding ix1 ix2 ix3 ix4 ix5
open Idealize.ShloMosaic.ValueIdx Cert.AttendReferenceIdeal
open scoped BigOperators

noncomputable section

/-! ## The steps -/

/-- The keys of the gathered rows, by query, neighbour, head and place. -/
def refKeys (w : IVec S32768x512 32) : FVec Ideal S1024x32x8x64 .f32 :=
  shapeCast _ (bitcastToFloat (F := Ideal) .f32 (andi w (broadcastInDim S32768x512 ![] Gen.bcast_S_S32768x512 (constantI S_ 32 4294901760#32))))
    Gen.shapeCasts_S32768x512_S1024x32x8x64

/-- The values. -/
def refValues (w : IVec S32768x512 32) : FVec Ideal S1024x32x8x64 .f32 :=
  shapeCast _ (bitcastToFloat (F := Ideal) .f32 (Host.shli w (broadcastInDim S32768x512 ![] Gen.bcast_S_S32768x512 (constantI S_ 32 16#32))))
    Gen.shapeCasts_S32768x512_S1024x32x8x64

/-- The angles, each twice. -/
def refAngles (d : FVec Ideal S1x1024x32 .f32) (f : FVec Ideal S16 .f32) : FVec Ideal S1024x32x1x32 .f32 :=
  shapeCast _ (broadcastInDim S1024x32x1x16x2 ![0, 1, 2, 3] Gen.bcast_S1024x32x1x16_S1024x32x1x16x2_0_1_2_3
    (mulf (broadcastInDim S1024x32x1x16 ![0, 1, 2, 3] Gen.bcast_S1024x32x1x1_S1024x32x1x16_0_1_2_3
        (mulf (shapeCast _ d Gen.shapeCasts_S1x1024x32_S1024x32x1x1)
          (broadcastInDim S1024x32x1x1 ![] Gen.bcast_S_S1024x32x1x1 (constant S_ .f32 0x42C80000#32))))
      (broadcastInDim S1024x32x1x16 ![0, 1, 2, 3] Gen.bcast_S1x1x1x16_S1024x32x1x16_0_1_2_3
        (broadcastInDim S1x1x1x16 ![3] Gen.bcast_S16_S1x1x1x16_3 f))))
    Gen.shapeCasts_S1024x32x1x16x2_S1024x32x1x32

/-- One part of each pair, with a sign or without, under a last unit axis. -/
def refMates (t : FVec Ideal S1024x32x8x32 .f32) : FVec Ideal S1024x32x8x32 .f32 :=
  shapeCast _ (concatenate S1024x32x8x16x2 4
    [⟨S1024x32x8x16x1, broadcastInDim S1024x32x8x16x1 ![0, 1, 2, 3] Gen.bcast_S1024x32x8x16_S1024x32x8x16x1_0_1_2_3
        (Host.negf (shapeCast _ (extractStridedSlice S1024x32x8x16x1 ![0, 0, 0, 0, 1]
          (shapeCast _ t Gen.shapeCasts_S1024x32x8x32_S1024x32x8x16x2) Gen.slices_S1024x32x8x16x2_S1024x32x8x16x1_0_0_0_0_1)
          Gen.shapeCasts_S1024x32x8x16x1_S1024x32x8x16))⟩,
     ⟨S1024x32x8x16x1, broadcastInDim S1024x32x8x16x1 ![0, 1, 2, 3] Gen.bcast_S1024x32x8x16_S1024x32x8x16x1_0_1_2_3
        (shapeCast _ (extractStridedSlice S1024x32x8x16x1 ![0, 0, 0, 0, 0]
          (shapeCast _ t Gen.shapeCasts_S1024x32x8x32_S1024x32x8x16x2) Gen.slices_S1024x32x8x16x2_S1024x32x8x16x1_0_0_0_0_0)
          Gen.shapeCasts_S1024x32x8x16x1_S1024x32x8x16)⟩]
    Gen.concatenates_S1024x32x8x16x1_S1024x32x8x16x1_S1024x32x8x16x2_d4)
    Gen.shapeCasts_S1024x32x8x16x2_S1024x32x8x32

/-- Rows rotated by angles. -/
def refTurned (x : FVec Ideal S1024x32x8x64 .f32) (a : FVec Ideal S1024x32x1x32 .f32) : FVec Ideal S1024x32x8x64 .f32 :=
  concatenate S1024x32x8x64 3
    [⟨S1024x32x8x32,
      addf (mulf (extractStridedSlice S1024x32x8x32 ![0, 0, 0, 0] x Gen.slices_S1024x32x8x64_S1024x32x8x32_0_0_0_0)
          (broadcastInDim S1024x32x8x32 ![0, 1, 2, 3] Gen.bcast_S1024x32x1x32_S1024x32x8x32_0_1_2_3 (Host.cos a)))
        (mulf (refMates (extractStridedSlice S1024x32x8x32 ![0, 0, 0, 0] x Gen.slices_S1024x32x8x64_S1024x32x8x32_0_0_0_0))
          (broadcastInDim S1024x32x8x32 ![0, 1, 2, 3] Gen.bcast_S1024x32x1x32_S1024x32x8x32_0_1_2_3 (Host.sin a)))⟩,
     ⟨S1024x32x8x32, extractStridedSlice S1024x32x8x32 ![0, 0, 0, 32] x Gen.slices_S1024x32x8x64_S1024x32x8x32_0_0_0_32⟩]
    Gen.concatenates_S1024x32x8x32_S1024x32x8x32_S1024x32x8x64_d3

/-- The scores of each query, neighbour and head. -/
def refScores (q : FVec Ideal S1x1024x512 .f32) (k : FVec Ideal S1024x32x8x64 .f32) : FVec Ideal S1024x32x8 .f32 :=
  mulf (Host.reduceAdd (mulf (broadcastInDim S1024x32x8x64 ![0, 1, 2, 3] Gen.bcast_S1024x1x8x64_S1024x32x8x64_0_1_2_3
      (shapeCast _ q Gen.shapeCasts_S1x1024x512_S1024x1x8x64)) k) (constant S_ .f32 0x00000000#32)
      Gen.reducesTo_S1024x32x8x64_S1024x32x8_d3 Gen.h_S_)
    (broadcastInDim S1024x32x8 ![] Gen.bcast_S_S1024x32x8 (constant S_ .f32 0x3E000000#32))

/-- A value per query and head, repeated over the neighbours. -/
def refSpread (x : FVec Ideal S1024x8 .f32) : FVec Ideal S1024x32x8 .f32 :=
  broadcastInDim S1024x32x8 ![0, 1, 2] Gen.bcast_S1024x1x8_S1024x32x8_0_1_2
    (broadcastInDim S1024x1x8 ![0, 2] Gen.bcast_S1024x8_S1024x1x8_0_2 x)

/-- The exponentials of the scores less the largest. -/
def refExps (s : FVec Ideal S1024x32x8 .f32) : FVec Ideal S1024x32x8 .f32 :=
  Host.exp (subf s (refSpread (maximumf (broadcastInDim S1024x8 ![] Gen.bcast_S_S1024x8 (constant S_ .f32 0xFF800000#32))
    (Host.reduce FloatOps.maximumf s (constant S_ .f32 0xFF800000#32) Gen.reducesTo_S1024x32x8_S1024x8_d1 Gen.h_S_))))

/-- The softmax over the neighbours, from the exponentials. -/
def refWeights (e : FVec Ideal S1024x32x8 .f32) : FVec Ideal S1024x32x8 .f32 :=
  Host.divf e (refSpread (Host.reduceAdd e (constant S_ .f32 0x00000000#32) Gen.reducesTo_S1024x32x8_S1024x8_d1 Gen.h_S_))

/-- The values' sum by weights, the heads side by side. -/
def refSum (p : FVec Ideal S1024x32x8 .f32) (v : FVec Ideal S1024x32x8x64 .f32) : FVec Ideal S1x1024x512 .f32 :=
  shapeCast _ (Host.reduceAdd (mulf (broadcastInDim S1024x32x8x64 ![0, 1, 2, 3] Gen.bcast_S1024x32x8x1_S1024x32x8x64_0_1_2_3
      (broadcastInDim S1024x32x8x1 ![0, 1, 2] Gen.bcast_S1024x32x8_S1024x32x8x1_0_1_2 p)) v) (constant S_ .f32 0x00000000#32)
      Gen.reducesTo_S1024x32x8x64_S1024x8x64_d1 Gen.h_S_)
    Gen.shapeCasts_S1024x8x64_S1x1024x512

/-- The whole of it. -/
def refAttention (q : FVec Ideal S1x1024x512 .f32) (w : IVec S32768x512 32) (d : FVec Ideal S1x1024x32 .f32) (f : FVec Ideal S16 .f32) :
    FVec Ideal S1x1024x512 .f32 :=
  refSum (refWeights (refExps (refScores q (refTurned (refKeys w) (refAngles d f))))) (refTurned (refValues w) (refAngles d f))

variable (m : (ℓ : Loc nD τ sig) → Buf (Elt Ideal) ℓ) (c : Dev nD)

open Idealize.ShloMosaic.TcCoe in
/-- The reference's result is these steps, one after the other. -/
theorem reference_eq : Value.res_main_v78 (F := Ideal) m c
    = refAttention (m ((c : Thread nD τ).loc main_arg0)) (m ((c : Thread nD τ).loc main_arg1))
        (m ((c : Thread nD τ).loc main_arg2)) (m ((c : Thread nD τ).loc main_arg3)) := rfl

/-! ## Each step at an index -/

/-- The gathered row of the query's neighbour. -/
def near (n : Fin 1024) (j : Fin 32) : Fin 32768 := ⟨32 * n.val + j.val, by omega⟩

/-- The rows by query, neighbour, head and place. -/
theorem byHead_at {α : Type} (x : S32768x512.Idx → α) (h : S32768x512.ShapeCasts S1024x32x8x64) (n : Fin 1024) (j : Fin 32)
    (k : Fin 8) (e : Fin 64) : shapeCast S1024x32x8x64 x h (ix4 n j k e) = x (ix2 (near n j) (lane k e)) :=
  shapeCast_apply _ _ _ _ (by
    rw [Shape.rowMajor_val_four, Shape.rowMajor_val_two]
    show (32 * n.val + j.val) * 512 + (64 * k.val + e.val) = ((n.val * 32 + j.val) * 8 + k.val) * 64 + e.val
    omega)

theorem refKeys_at (w : IVec S32768x512 32) (n : Fin 1024) (j : Fin 32) (k : Fin 8) (e : Fin 64) :
    refKeys w (ix4 n j k e) = key (w (ix2 (near n j) (lane k e))) := by
  unfold refKeys
  rw [byHead_at]
  rfl

theorem refValues_at (w : IVec S32768x512 32) (n : Fin 1024) (j : Fin 32) (k : Fin 8) (e : Fin 64) :
    refValues w (ix4 n j k e) = value (w (ix2 (near n j) (lane k e))) := by
  unfold refValues
  rw [byHead_at]
  rfl

/-- The angles: entry `r` is that of frequency `r / 2`. -/
theorem refAngles_at (d : FVec Ideal S1x1024x32 .f32) (f : FVec Ideal S16 .f32) (n : Fin 1024) (j : Fin 32) (r : Fin 32) :
    refAngles d f (ix4 n j 0 r) = angle (d (ix3 0 n j)) (f (ix1 ⟨r.val / 2, by omega⟩)) := by
  unfold refAngles
  refine (shapeCast_apply _ _ _ (ix5 n j (0 : Fin 1) (⟨r.val / 2, by omega⟩ : Fin 16) (⟨r.val % 2, by omega⟩ : Fin 2)) (by
    rw [Shape.rowMajor_val_four, Shape.rowMajor_val_five]
    show ((((n.val * 32 + j.val) * 1 + 0) * 16 + r.val / 2) * 2 + r.val % 2) = ((n.val * 32 + j.val) * 1 + 0) * 32 + r.val
    omega)).trans ?_
  refine (broadcastInDim_apply (s := S1024x32x1x16) _ _ _ _ (ix4 n j (0 : Fin 1) (⟨r.val / 2, by omega⟩ : Fin 16)) (fun
    | ⟨0, _⟩ => rfl | ⟨1, _⟩ => rfl | ⟨2, _⟩ => rfl | ⟨3, _⟩ => rfl)).trans ?_
  have h1 : ∀ (x : FVec Ideal S1024x32x1x1 .f32) (m : Fin 16), broadcastInDim S1024x32x1x16 ![0, 1, 2, 3]
      Gen.bcast_S1024x32x1x1_S1024x32x1x16_0_1_2_3 x (ix4 n j 0 m) = x (ix4 n j 0 0) := fun x m =>
    broadcastInDim_apply (s := S1024x32x1x1) _ _ _ _ _ (fun | ⟨0, _⟩ => rfl | ⟨1, _⟩ => rfl | ⟨2, _⟩ => rfl | ⟨3, _⟩ => rfl)
  have h2 : ∀ (x : FVec Ideal S1x1x1x16 .f32) (m : Fin 16), broadcastInDim S1024x32x1x16 ![0, 1, 2, 3]
      Gen.bcast_S1x1x1x16_S1024x32x1x16_0_1_2_3 x (ix4 n j 0 m) = x (ix4 0 0 0 m) := fun x m =>
    broadcastInDim_apply (s := S1x1x1x16) _ _ _ _ _ (fun | ⟨0, _⟩ => rfl | ⟨1, _⟩ => rfl | ⟨2, _⟩ => rfl | ⟨3, _⟩ => rfl)
  have h3 : ∀ (x : FVec Ideal S16 .f32) (m : Fin 16), broadcastInDim S1x1x1x16 ![3]
      Gen.bcast_S16_S1x1x1x16_3 x (ix4 0 0 0 m) = x (ix1 m) := fun x m =>
    broadcastInDim_apply (s := S16) _ _ _ _ _ (fun | ⟨0, _⟩ => rfl)
  have h4 : shapeCast S1024x32x1x1 d Gen.shapeCasts_S1x1024x32_S1024x32x1x1 (ix4 n j 0 0) = d (ix3 0 n j) :=
    shapeCast_apply _ _ _ _ (by
      rw [Shape.rowMajor_val_four, Shape.rowMajor_val_three]
      show (0 * 1024 + n.val) * 32 + j.val = ((n.val * 32 + j.val) * 1 + 0) * 1 + 0
      omega)
  rw [show ∀ (x y : FVec Ideal S1024x32x1x16 .f32) i, mulf x y i = x i * y i from fun _ _ _ => rfl, h1, h2, h3]
  show (shapeCast S1024x32x1x1 d _ (ix4 n j 0 0) * _) * _ = _
  rw [h4]
  rfl

/-- A pair's entry under the last axis. -/
theorem pair_at {α : Type} (t : S1024x32x8x32.Idx → α) (o : ℕ) (ho : o < 2)
    (hs : S1024x32x8x16x2.Slices ![0, 0, 0, 0, o] S1024x32x8x16x1) (n : Fin 1024) (j : Fin 32) (k : Fin 8) (p : Fin 16) :
    shapeCast S1024x32x8x16 (extractStridedSlice S1024x32x8x16x1 ![0, 0, 0, 0, o]
        (shapeCast S1024x32x8x16x2 t Gen.shapeCasts_S1024x32x8x32_S1024x32x8x16x2) hs)
        Gen.shapeCasts_S1024x32x8x16x1_S1024x32x8x16 (ix4 n j k p)
      = t (ix4 n j k ⟨2 * p.val + o, by omega⟩) := by
  refine (shapeCast_apply _ _ _ (ix5 n j k p (0 : Fin 1)) (by
    rw [Shape.rowMajor_val_four, Shape.rowMajor_val_five]
    show ((((n.val * 32 + j.val) * 8 + k.val) * 16 + p.val) * 1 + 0) = ((n.val * 32 + j.val) * 8 + k.val) * 16 + p.val
    omega)).trans ?_
  refine (extractStridedSlice_apply _ _ _ _ (ix5 n j k p (⟨o, ho⟩ : Fin 2)) (fun
    | ⟨0, _⟩ => (Nat.zero_add _).symm | ⟨1, _⟩ => (Nat.zero_add _).symm | ⟨2, _⟩ => (Nat.zero_add _).symm
    | ⟨3, _⟩ => (Nat.zero_add _).symm | ⟨4, _⟩ => rfl)).trans ?_
  exact shapeCast_apply _ _ _ _ (by
    rw [Shape.rowMajor_val_four, Shape.rowMajor_val_five]
    show ((n.val * 32 + j.val) * 8 + k.val) * 32 + (2 * p.val + o) = ((((n.val * 32 + j.val) * 8 + k.val) * 16 + p.val) * 2 + o)
    omega)

/-- The mates: at an even place the next one's negative, at an odd place the one before. -/
theorem refMates_at (t : FVec Ideal S1024x32x8x32 .f32) (n : Fin 1024) (j : Fin 32) (k : Fin 8) (r : Fin 32) :
    refMates t (ix4 n j k r)
      = if h : r.val % 2 = 0 then -t (ix4 n j k ⟨r.val + 1, by omega⟩) else t (ix4 n j k ⟨r.val - 1, by omega⟩) := by
  unfold refMates
  refine (shapeCast_apply _ _ _ (ix5 n j k (⟨r.val / 2, by omega⟩ : Fin 16) (⟨r.val % 2, by omega⟩ : Fin 2)) (by
    rw [Shape.rowMajor_val_four, Shape.rowMajor_val_five]
    show ((((n.val * 32 + j.val) * 8 + k.val) * 16 + r.val / 2) * 2 + r.val % 2) = ((n.val * 32 + j.val) * 8 + k.val) * 32 + r.val
    omega)).trans ?_
  have hb : ∀ (x : FVec Ideal S1024x32x8x16 .f32) (p : Fin 16), broadcastInDim S1024x32x8x16x1 ![0, 1, 2, 3]
      Gen.bcast_S1024x32x8x16_S1024x32x8x16x1_0_1_2_3 x (ix5 n j k p 0) = x (ix4 n j k p) := fun x p =>
    broadcastInDim_apply (s := S1024x32x8x16) _ _ _ _ _ (fun | ⟨0, _⟩ => rfl | ⟨1, _⟩ => rfl | ⟨2, _⟩ => rfl | ⟨3, _⟩ => rfl)
  by_cases h : r.val % 2 = 0
  · rw [dif_pos h]
    refine (concatenate_pair_apply_left (t := S1024x32x8x16x2) (s₁ := S1024x32x8x16x1) (s₂ := S1024x32x8x16x1) (4 : Fin 5) _ _ _
      (ix5 n j k (⟨r.val / 2, by omega⟩ : Fin 16) (⟨r.val % 2, by omega⟩ : Fin 2)) rfl
      (ix5 n j k (⟨r.val / 2, by omega⟩ : Fin 16) (0 : Fin 1)) (fun
        | ⟨0, _⟩ => rfl | ⟨1, _⟩ => rfl | ⟨2, _⟩ => rfl | ⟨3, _⟩ => rfl | ⟨4, _⟩ => h.symm)).trans ?_
    rw [hb]
    show -(shapeCast S1024x32x8x16 _ _ (ix4 n j k _)) = _
    rw [pair_at _ 1 (by decide)]
    refine congrArg (fun i => -t (ix4 n j k i)) (Fin.ext ?_)
    show 2 * (r.val / 2) + 1 = r.val + 1
    omega
  · rw [dif_neg h]
    refine (concatenate_pair_apply_right (t := S1024x32x8x16x2) (s₁ := S1024x32x8x16x1) (s₂ := S1024x32x8x16x1) (4 : Fin 5) _ _ _
      (ix5 n j k (⟨r.val / 2, by omega⟩ : Fin 16) (⟨r.val % 2, by omega⟩ : Fin 2)) rfl rfl
      (ix5 n j k (⟨r.val / 2, by omega⟩ : Fin 16) (0 : Fin 1)) (fun
        | ⟨0, _⟩ => fun _ => rfl | ⟨1, _⟩ => fun _ => rfl | ⟨2, _⟩ => fun _ => rfl | ⟨3, _⟩ => fun _ => rfl
        | ⟨4, _⟩ => fun hne => absurd rfl hne) (show 0 + 1 = r.val % 2 by omega)).trans ?_
    rw [hb, pair_at _ 0 (by decide)]
    refine congrArg (fun i => t (ix4 n j k i)) (Fin.ext ?_)
    show 2 * (r.val / 2) + 0 = r.val - 1
    omega

/-- A turned row is `rot` of the row: `x` its rows by head, `y` one row by lanes, `g` its angles. -/
theorem refTurned_at (x : FVec Ideal S1024x32x8x64 .f32) (a : FVec Ideal S1024x32x1x32 .f32) (n : Fin 1024) (j : Fin 32)
    (y : Fin 512 → EReal) (g : Fin 16 → EReal) (hx : ∀ k e, x (ix4 n j k e) = y (lane k e))
    (ha : ∀ r : Fin 32, a (ix4 n j 0 r) = g ⟨r.val / 2, by omega⟩) (k : Fin 8) (e : Fin 64) :
    refTurned x a (ix4 n j k e) = rot y g (lane k e) := by
  have hm : (lane k e).val % 64 = e.val := by
    show (64 * k.val + e.val) % 64 = e.val
    omega
  unfold refTurned rot
  rw [hm]
  have hb : ∀ (z : FVec Ideal S1024x32x1x32 .f32) (r : Fin 32), broadcastInDim S1024x32x8x32 ![0, 1, 2, 3]
      Gen.bcast_S1024x32x1x32_S1024x32x8x32_0_1_2_3 z (ix4 n j k r) = z (ix4 n j 0 r) := fun z r =>
    broadcastInDim_apply (s := S1024x32x1x32) _ _ _ _ _ (fun | ⟨0, _⟩ => rfl | ⟨1, _⟩ => rfl | ⟨2, _⟩ => rfl | ⟨3, _⟩ => rfl)
  have hs : ∀ r : Fin 32, extractStridedSlice S1024x32x8x32 ![0, 0, 0, 0] x Gen.slices_S1024x32x8x64_S1024x32x8x32_0_0_0_0
      (ix4 n j k r) = y (lane k ⟨r.val, by omega⟩) := fun r =>
    (extractStridedSlice_apply _ _ _ _ (ix4 n j k (⟨r.val, by omega⟩ : Fin 64)) (fun
      | ⟨0, _⟩ => (Nat.zero_add _).symm | ⟨1, _⟩ => (Nat.zero_add _).symm | ⟨2, _⟩ => (Nat.zero_add _).symm
      | ⟨3, _⟩ => (Nat.zero_add _).symm)).trans (hx k _)
  by_cases h : e.val < 32
  · rw [if_pos h]
    refine (concatenate_pair_apply_left (t := S1024x32x8x64) (s₁ := S1024x32x8x32) (s₂ := S1024x32x8x32) (3 : Fin 4) _ _ _ (ix4 n j k e) rfl
      (ix4 n j k (⟨e.val, h⟩ : Fin 32)) (fun | ⟨0, _⟩ => rfl | ⟨1, _⟩ => rfl | ⟨2, _⟩ => rfl | ⟨3, _⟩ => rfl)).trans ?_
    rw [show ∀ (p q : FVec Ideal S1024x32x8x32 .f32) i, addf p q i = p i + q i from fun _ _ _ => rfl,
      show ∀ (p q : FVec Ideal S1024x32x8x32 .f32) i, mulf p q i = p i * q i from fun _ _ _ => rfl,
      show ∀ (p q : FVec Ideal S1024x32x8x32 .f32) i, mulf p q i = p i * q i from fun _ _ _ => rfl,
      hb, hb, refMates_at, hs]
    show _ * Ideal.cos (a (ix4 n j 0 ⟨e.val, h⟩)) + _ * Ideal.sin (a (ix4 n j 0 ⟨e.val, h⟩)) = _
    rw [ha]
    have hf : freqOf (lane k e) = ⟨e.val / 2, by omega⟩ := Fin.ext (by
      show (64 * k.val + e.val) % 64 / 2 % 16 = e.val / 2
      omega)
    rw [hf]
    have hpar : (lane k e).val % 2 = e.val % 2 := by
      show (64 * k.val + e.val) % 2 = e.val % 2
      omega
    congr 2
    rw [hpar]
    by_cases hp : e.val % 2 = 0
    · rw [dif_pos hp, if_pos hp, hs]
      refine congrArg (fun i => -y i) (Fin.ext ?_)
      unfold mate
      rw [dif_pos (hpar.trans hp)]
      rfl
    · rw [dif_neg hp, if_neg hp, hs]
      refine congrArg y (Fin.ext ?_)
      unfold mate
      rw [dif_neg (fun h0 => hp (hpar.symm.trans h0))]
      show 64 * k.val + (e.val - 1) = 64 * k.val + e.val - 1
      omega
  · rw [if_neg h]
    refine (concatenate_pair_apply_right (t := S1024x32x8x64) (s₁ := S1024x32x8x32) (s₂ := S1024x32x8x32) (3 : Fin 4) _ _ _ (ix4 n j k e) rfl rfl
      (ix4 n j k (⟨e.val - 32, by omega⟩ : Fin 32)) (fun
        | ⟨0, _⟩ => fun _ => rfl | ⟨1, _⟩ => fun _ => rfl | ⟨2, _⟩ => fun _ => rfl
        | ⟨3, _⟩ => fun hne => absurd rfl hne) (show e.val - 32 + 32 = e.val by omega)).trans ?_
    refine (extractStridedSlice_apply _ _ _ _ (ix4 n j k e) (fun
      | ⟨0, _⟩ => (Nat.zero_add _).symm | ⟨1, _⟩ => (Nat.zero_add _).symm | ⟨2, _⟩ => (Nat.zero_add _).symm
      | ⟨3, _⟩ => show e.val = 32 + (e.val - 32) by omega)).trans (hx k e)

/-- The scores. -/
theorem refScores_at (q : FVec Ideal S1x1024x512 .f32) (x : FVec Ideal S1024x32x8x64 .f32) (n : Fin 1024) (j : Fin 32) (k : Fin 8) :
    refScores q x (ix3 n j k) = (∑ e : Fin 64, q (ix3 0 n (lane k e)) * x (ix4 n j k e)) * eighth := by
  unfold refScores
  have hq : ∀ e : Fin 64, broadcastInDim S1024x32x8x64 ![0, 1, 2, 3] Gen.bcast_S1024x1x8x64_S1024x32x8x64_0_1_2_3
      (shapeCast S1024x1x8x64 q Gen.shapeCasts_S1x1024x512_S1024x1x8x64) (ix4 n j k e) = q (ix3 0 n (lane k e)) := fun e =>
    (broadcastInDim_apply (s := S1024x1x8x64) _ _ _ _ (ix4 n (0 : Fin 1) k e) (fun
      | ⟨0, _⟩ => rfl | ⟨1, _⟩ => rfl | ⟨2, _⟩ => rfl | ⟨3, _⟩ => rfl)).trans
    (shapeCast_apply _ _ _ _ (by
      rw [Shape.rowMajor_val_four, Shape.rowMajor_val_three]
      show (0 * 1024 + n.val) * 512 + (64 * k.val + e.val) = ((n.val * 1 + 0) * 8 + k.val) * 64 + e.val
      omega))
  rw [show ∀ (a b : FVec Ideal S1024x32x8 .f32) i, mulf a b i = a i * b i from fun _ _ _ => rfl]
  refine congrArg (· * eighth) ?_
  refine (hostReduceAdd_apply _ _ _ _ _).trans ?_
  refine (Ideal.hostReduceAdd_r4_a3 _ _ _ _).trans ?_
  rw [show (constant S_ .f32 0x00000000#32 (Shape.Idx.first Gen.h_S_) : Ideal .f32) = (0 : EReal) from Ideal.ofBits_zero_f32, zero_add]
  refine Finset.sum_congr rfl fun e _ => ?_
  show broadcastInDim S1024x32x8x64 _ _ _ (ix4 n j k e) * x (ix4 n j k e) = _
  rw [hq]

theorem refSpread_at (x : FVec Ideal S1024x8 .f32) (n : Fin 1024) (j : Fin 32) (k : Fin 8) :
    refSpread x (ix3 n j k) = x (ix2 n k) :=
  (broadcastInDim_apply (s := S1024x1x8) _ _ _ _ (ix3 n (0 : Fin 1) k) (fun
    | ⟨0, _⟩ => rfl | ⟨1, _⟩ => rfl | ⟨2, _⟩ => rfl)).trans
  (broadcastInDim_apply (s := S1024x8) _ _ _ _ (ix2 n k) (fun | ⟨0, _⟩ => rfl | ⟨1, _⟩ => rfl))

/-- The exponentials. -/
theorem refExps_at (s : FVec Ideal S1024x32x8 .f32) (n : Fin 1024) (j : Fin 32) (k : Fin 8) :
    refExps s (ix3 n j k) = Ideal.exp (s (ix3 n j k) - top fun i => s (ix3 n i k)) := by
  unfold refExps
  show Ideal.exp (s (ix3 n j k) - refSpread _ (ix3 n j k)) = _
  rw [refSpread_at]
  refine congrArg (fun z => Ideal.exp (s (ix3 n j k) - z)) ?_
  have hb : Ideal.ofBits .f32 0xFF800000#32 = (⊥ : EReal) := by
    simp [Ideal.ofBits, Ideal.ieee]
  show max (Ideal.ofBits .f32 0xFF800000#32) (Host.reduce FloatOps.maximumf s _ _ _ (ix2 n k)) = _
  rw [hb, max_eq_right bot_le]
  refine (Host.reduce_eq_fold_single (α := EReal) max s _ _ (by decide) _ _).trans ?_
  unfold top
  rw [show (constant S_ .f32 0xFF800000#32 (Shape.Idx.first Gen.h_S_) : Ideal .f32) = (⊥ : EReal) from hb]
  refine congrArg (Finset.univ.fold max (⊥ : EReal)) (funext fun i => congrArg s (funext fun b => Fin.ext ?_))
  match b with
  | ⟨0, _⟩ => rfl
  | ⟨1, _⟩ => rfl
  | ⟨2, _⟩ => rfl

/-- The weights. -/
theorem refWeights_at (s : FVec Ideal S1024x32x8 .f32) (n : Fin 1024) (j : Fin 32) (k : Fin 8) :
    refWeights (refExps s) (ix3 n j k) = softmax (fun i => s (ix3 n i k)) j := by
  unfold refWeights softmax
  show Ideal.div (refExps s (ix3 n j k)) (refSpread _ (ix3 n j k)) = _
  rw [refSpread_at, refExps_at]
  refine congrArg (Ideal.div _) ?_
  refine (hostReduceAdd_apply _ _ _ _ _).trans ?_
  refine (Ideal.hostReduceAdd_r3_a1 _ _ _ _).trans ?_
  rw [show (constant S_ .f32 0x00000000#32 (Shape.Idx.first Gen.h_S_) : Ideal .f32) = (0 : EReal) from Ideal.ofBits_zero_f32, zero_add]
  exact Finset.sum_congr rfl fun i _ => refExps_at s n i k

/-- The weighted sum. -/
theorem refSum_at (p : FVec Ideal S1024x32x8 .f32) (v : FVec Ideal S1024x32x8x64 .f32) (n : Fin 1024) (k : Fin 8) (e : Fin 64) :
    refSum p v (ix3 0 n (lane k e)) = ∑ j : Fin 32, p (ix3 n j k) * v (ix4 n j k e) := by
  unfold refSum
  refine (shapeCast_apply _ _ _ (ix3 n k e) (by
    rw [Shape.rowMajor_val_three, Shape.rowMajor_val_three]
    show (n.val * 8 + k.val) * 64 + e.val = (0 * 1024 + n.val) * 512 + (64 * k.val + e.val)
    omega)).trans ?_
  refine (hostReduceAdd_apply _ _ _ _ _).trans ?_
  refine (Ideal.hostReduceAdd_r4_a1 _ _ _ _).trans ?_
  rw [show (constant S_ .f32 0x00000000#32 (Shape.Idx.first Gen.h_S_) : Ideal .f32) = (0 : EReal) from Ideal.ofBits_zero_f32, zero_add]
  refine Finset.sum_congr rfl fun j _ => ?_
  show broadcastInDim S1024x32x8x64 _ _ _ (ix4 n j k e) * v (ix4 n j k e) = _
  congr 1
  exact (broadcastInDim_apply (s := S1024x32x8x1) _ _ _ _ (ix4 n j k (0 : Fin 1)) (fun
    | ⟨0, _⟩ => rfl | ⟨1, _⟩ => rfl | ⟨2, _⟩ => rfl | ⟨3, _⟩ => rfl)).trans
    (broadcastInDim_apply (s := S1024x32x8) _ _ _ _ (ix3 n j k) (fun | ⟨0, _⟩ => rfl | ⟨1, _⟩ => rfl | ⟨2, _⟩ => rfl))

/-- The reference's attention of a query is `att` of the query's data. -/
theorem refAttention_at (q : FVec Ideal S1x1024x512 .f32) (w : IVec S32768x512 32) (d : FVec Ideal S1x1024x32 .f32)
    (f : FVec Ideal S16 .f32) (n : Fin 1024) (l : Fin 512) :
    refAttention q w d f (ix3 0 n l)
      = att (fun k => q (ix3 0 n k)) (fun j k => w (ix2 (near n j) k)) (fun j => d (ix3 0 n j)) (fun k => f (ix1 k)) l := by
  obtain ⟨k, e, rfl⟩ : ∃ k e, l = lane k e := ⟨head l, ⟨l.val % 64, by omega⟩, Fin.ext (by
    show l.val = 64 * (l.val / 64) + l.val % 64
    omega)⟩
  have hh : head (lane k e) = k := Fin.ext (by
    show (64 * k.val + e.val) / 64 = k.val
    omega)
  have hk : ∀ (j : Fin 32) (k : Fin 8) (e : Fin 64), refTurned (refKeys w) (refAngles d f) (ix4 n j k e) = _ := fun j k e =>
    refTurned_at (refKeys w) (refAngles d f) n j (fun l => key (w (ix2 (near n j) l))) (fun m => angle (d (ix3 0 n j)) (f (ix1 m)))
      (fun k e => refKeys_at w n j k e) (fun r => refAngles_at d f n j r) k e
  have hv : ∀ (j : Fin 32) (k : Fin 8) (e : Fin 64), refTurned (refValues w) (refAngles d f) (ix4 n j k e) = _ := fun j k e =>
    refTurned_at (refValues w) (refAngles d f) n j (fun l => value (w (ix2 (near n j) l))) (fun m => angle (d (ix3 0 n j)) (f (ix1 m)))
      (fun k e => refValues_at w n j k e) (fun r => refAngles_at d f n j r) k e
  unfold refAttention att
  rw [refSum_at, hh]
  refine Finset.sum_congr rfl fun j _ => ?_
  rw [refWeights_at, hv]
  congr 2
  funext i
  rw [refScores_at]
  unfold score
  congr 1
  exact Finset.sum_congr rfl fun e _ => by rw [hk]

end

end Cert.Proof.Attn
-- ==== Proof.AttnClaim.lean ====
module

public import proofs.«01_k».proof.Proof.AttnArray
public import proofs.«01_k».proof.Proof.AttnRef
public import proofs.«01_k».proof.Proof.Gen.Attend.Frame
public import proofs.«01_k».proof.Proof.Gen.Pre_finite
public import proofs.«01_k».proof.Defs
public import Idealize.ShloMosaic.Lib.ReduceAll

@[expose] public section

/-!
# The claims of the attention

The precondition is read into the finiteness of each argument; with it the kernel's result and the reference's are one
array.
-/

namespace Cert.Proof.Attn
open Idealize.ShloMosaic hiding ix0 ix1 ix2 ix3 ix4 ix5 eq_ix3
open Idealize.ShloMosaic.TcCoe Idealize.SL Idealize.SL.Sem Idealize.ShloMosaic.ValueIdx

noncomputable section

/-! ## The precondition -/

/-- A word that is one says that both of its conjuncts are one. -/
theorem and_one {a b : BitVec 1} (h : IntOp.andi a b = 1#1) : a = 1#1 ∧ b = 1#1 := by
  revert h
  change a &&& b = 1#1 → _
  revert a b
  decide

/-- Infinity's word read as an extended real. -/
theorem ofBits_inf : Ideal.ofBits .f32 0x7F800000#32 = ⊤ := by
  show Ideal.ieee 8 23 (0x7F800000#32 : BitVec 32) = ⊤
  unfold Ideal.ieee
  rw [if_pos (by decide), if_pos (by decide)]
  exact if_neg (by decide)

/-- The comparison of an absolute value with infinity, read. -/
theorem isReal_of_cmp {x : EReal} (h : FloatOps.cmpf (F := Ideal) (φ := .f32) .olt (max x (-x)) (Ideal.ofBits .f32 0x7F800000#32) = 1#1) : IsReal x := by
  refine isReal_of_abs ?_
  rw [ofBits_inf] at h
  by_contra hn
  have : FloatOps.cmpf (F := Ideal) (φ := .f32) .olt (max x (-x)) ⊤ = BitVec.ofBool (decide (max x (-x) < ⊤)) := rfl
  rw [this, decide_eq_false hn] at h
  exact absurd h (by decide)

/-- The precondition read: queries, keys, distances and frequencies are finite. -/
theorem finite_at [Cert.Pre_finite.Facts] (q : FVec Ideal Cert.Pre_finite.S1x1024x512 .f32) (w : IVec Cert.Pre_finite.S32768x512 32)
    (d : FVec Ideal Cert.Pre_finite.S1x1024x32 .f32) (f : FVec Ideal Cert.Pre_finite.S16 .f32)
    (h : Cert.Pre_finite.fn (F := Ideal) q w d f = fun _ => 1#1) :
    (∀ i, IsReal (q i)) ∧ (∀ i, IsReal (key (w i))) ∧ (∀ i, IsReal (d i)) ∧ ∀ i, IsReal (f i) := by
  have h0 := congrFun h ix0
  haveI : Subsingleton Cert.Pre_finite.S_.Idx := ⟨fun a b => funext fun k => k.elim0⟩
  dsimp only [Cert.Pre_finite.fn, Cert.Pre_finite.fn_part1] at h0
  obtain ⟨h0, hf⟩ := and_one h0
  obtain ⟨h0, hd⟩ := and_one h0
  obtain ⟨hq, hk⟩ := and_one h0
  exact ⟨fun i => isReal_of_cmp (Host.reduce_andi_all _ _ _ _ _ hq i), fun i => isReal_of_cmp (Host.reduce_andi_all _ _ _ _ _ hk i),
    fun i => isReal_of_cmp (Host.reduce_andi_all _ _ _ _ _ hd i),
    fun i => isReal_of_cmp (Host.reduce_andi_all _ _ _ _ _ hf i)⟩

/-! ## The claims -/

/-- Every run of the attention ends with the arguments as they were and no semaphore raised. -/
theorem frame_kernel : Cert.quiescent_Attend (hAttend := Cert.Attend.Gen.facts) := fun m ρ _ => Cert.Attend.Gen.frame m ρ
/-- The same of its idealization. -/
theorem frame_ideal : Cert.quiescent_AttendIdeal (hAttendIdeal := Cert.AttendIdeal.Gen.facts) :=
  fun m ρ _ => Cert.AttendIdeal.Gen.frame m ρ
/-- The same of its idealization, under the precondition. -/
theorem frame_ideal_pre : Cert.quiescent_AttendIdeal_pre_finite (hAttendIdeal := Cert.AttendIdeal.Gen.facts)
    (hPre_finite := Cert.Pre_finite.Gen.facts) := fun m ρ _ => Cert.AttendIdeal.Gen.frame m ρ
/-- The reference leaves its arguments as they were. -/
theorem frame_reference : Cert.quiescent_AttendReferenceIdeal (hAttendReferenceIdeal := Cert.AttendReferenceIdeal.Gen.facts) :=
  fun m ρ _ => (θ_run Cert.AttendReferenceIdeal.defs _ _).mono (fun r h => ⟨fun c => (h c).2, sem_eq_zero_of_no_sems (by decide) r.2⟩)
    (Cert.AttendReferenceIdeal.Value.run (F := Ideal) m ρ)
/-- The same under the precondition. -/
theorem frame_reference_pre : Cert.quiescent_AttendReferenceIdeal_pre_finite
    (hAttendReferenceIdeal := Cert.AttendReferenceIdeal.Gen.facts) (hPre_finite := Cert.Pre_finite.Gen.facts) :=
  fun m ρ _ => frame_reference m ρ trivial

/-- The kernel's result and the reference's are one array. -/
theorem algebraic : Cert.algebraic_AttendIdeal_AttendReferenceIdeal_pre_finite (hAttendIdeal := Cert.AttendIdeal.Gen.facts)
    (hAttendReferenceIdeal := Cert.AttendReferenceIdeal.Gen.facts) (hPre_finite := Cert.Pre_finite.Gen.facts) := by
  intro m ρ m' ρ' hpre hm
  refine ⟨fun c => (Cert.AttendIdeal.Gen.dats m 0 c).arrAt 4 Cert.AttendIdeal.cfg0.N, Cert.AttendIdeal.Value.run_blocks (F := Ideal) m ρ,
    (θ_run Cert.AttendReferenceIdeal.defs _ _).mono (fun r hr c => ⟨(hr c).1.trans ?_, (hr c).2⟩)
      (Cert.AttendReferenceIdeal.Value.run (F := Ideal) m' ρ')⟩
  obtain ⟨hq, hk, hd, hf⟩ := finite_at _ _ _ _ (hpre c)
  rw [reference_eq, (hm c).1, (hm c).2.1, (hm c).2.2.1, (hm c).2.2.2]
  refine funext fun k => ?_
  obtain ⟨z, n, l, rfl⟩ : ∃ (z : Fin 1) (n : Fin 1024) (l : Fin 512), k = ix3 z n l :=
    ⟨k 0, k 1, k 2, eq_ix3 (n0 := 1) (n1 := 1024) (n2 := 512) k⟩
  obtain rfl : z = 0 := Subsingleton.elim _ _
  exact ((refAttention_at _ _ _ _ n l).trans (attSwapped_eq (fun _ => hq _) (fun _ _ => hk _) (fun _ => hd _)
    (fun _ => hf _) l).symm).trans (array_at m c n l).symm

end

end Cert.Proof.Attn
-- ==== Proof.Proj.lean ====
module

public import proofs.«01_k».proof.Proof.Gen.Project.Frame
public import proofs.«01_k».proof.Proof.Gen.ProjectIdeal.Value
public import proofs.«01_k».proof.Proof.Gen.ProjectReferenceIdeal.Run
public import proofs.«01_k».proof.Defs
public import Idealize.ShloMosaic.Lib.Claim
public import Idealize.ShloMosaic.Lib.ValueLayout
public import Idealize.ShloMosaic.Lib.MatmulPlain

@[expose] public section

/-!
# The output projection

The grid has two points; each takes one batch's `1024` rows, the whole matrix and the bias, and writes the batch's
`1024` rows of the result. Kernel and reference both hold, at an entry, the row's product with the matrix's column and
the bias of the column.
-/

noncomputable section

namespace Cert.Proof.Proj

open Idealize.ShloMosaic Idealize.ShloMosaic.TcCoe Idealize.SL Idealize.SL.Sem ValueIdx
open scoped BigOperators

/-- An entry of the projection: a row times a column, and the column's bias. -/
def entry (x : Fin 512 → EReal) (w : Fin 512 → EReal) (b : EReal) : EReal := (∑ k : Fin 512, x k * w k) + b

section Kernel
open Cert.ProjectIdeal Cert.ProjectIdeal.Gen

/-- What the body stores, at an entry. -/
theorem stored_at (x : FVec Ideal S1x1024x512 .f32) (w : FVec Ideal S512x512 .f32) (b : FVec Ideal S1x512 .f32) (r : Fin 1024) (l : Fin 512) :
    k0_pay1 (F := Ideal) x w b (ix3 0 r l) = entry (fun k => x (ix3 0 r k)) (fun k => w (ix2 k l)) (b (ix2 0 l)) := by
  unfold k0_pay1
  refine (shapeCast_ab_1ab_apply _ _ _ r l).trans ?_
  refine congrArg₂ (fun s t : EReal => s + t) ?_ ?_
  · refine (Ideal.matmul_plain_apply none _ _ _ r l).trans ?_
    show Ideal.ofBits .f32 0x00000000#32 + _ = _
    rw [Ideal.ofBits_zero_f32, zero_add]
    exact Finset.sum_congr rfl fun k _ => congrArg (· * w (ix2 k l)) (shapeCast_1ab_ab_apply _ _ _ _)
  · rw [broadcastTo_1b_ab_apply, shapeCast_self]

/-- The body's block, at an entry. -/
theorem block_at (x : FVec Ideal S1x1024x512 .f32) (w : FVec Ideal S512x512 .f32) (b : FVec Ideal S1x512 .f32) (r : Fin 1024) (l : Fin 512) :
    out0_3 (F := Ideal) x w b (ix3 0 r l) = entry (fun k => x (ix3 0 r k)) (fun k => w (ix2 k l)) (b (ix2 0 l)) := by
  have z3 : (![0, 0, 0] : Fin 3 → ℕ) = fun _ => 0 := by decide
  have z2 : (![0, 0] : Fin 2 → ℕ) = fun _ => 0 := by decide
  have e : out0_3 (F := Ideal) x w b = k0_pay1 (F := Ideal) x w b := by
    unfold out0_3
    refine (View.canon_unit_zero z3 _ _).trans ?_
    have hx : View.ld (Val := Elt Ideal) (e' := .f32) x r0_0 = x := View.ld_unit_zero (Val := Elt Ideal) (e := .f32) (S := S1x1024x512) (off := ![0, 0, 0]) z3 inb_S1x1024x512_S1x1024x512_0_0_0 x
    have hw : View.ld (Val := Elt Ideal) (e' := .f32) w r0_1 = w := View.ld_unit_zero (Val := Elt Ideal) (e := .f32) (S := S512x512) (off := ![0, 0]) z2 inb_S512x512_S512x512_0_0 w
    have hb : View.ld (Val := Elt Ideal) (e' := .f32) b r0_2 = b := View.ld_unit_zero (Val := Elt Ideal) (e := .f32) (S := S1x512) (off := ![0, 0]) z2 inb_S1x512_S1x512_0_0 b
    exact congr (congrArg₂ (k0_pay1 (F := Ideal)) hx hw) hb
  rw [e, stored_at]

variable (m : (ℓ : Loc nD τ sig) → Buf (Elt Ideal) ℓ) (c : Dev nD)

/-- Where the blocks lie: the rows' by the point, the matrix's and the bias's at the beginning. -/
theorem block_starts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

/-- A point's batch. -/
def batch (t : Fin cfg0.N) : Fin 2 := ⟨t.val, t.isLt⟩

/-- The bias as the call receives it: as one row. -/
theorem bias_at (l : Fin 512) : V m c main_v0 (ix2 0 l) = m ((c : Thread nD τ).loc main_arg2) (ix1 l) := by
  have h : V m c main_v0 = broadcastInDim S1x512 ![1] bcast_S512_S1x512_1 (m ((c : Thread nD τ).loc main_arg2)) := by
    entry_read
    rfl
  rw [h]
  exact broadcastInDim_apply (s := S512) _ _ _ _ _ (fun (a : Fin 1) => by
    obtain rfl : a = 0 := Subsingleton.elim _ _
    rfl)

theorem rows_block (t : Fin cfg0.N) (r : Fin 1024) (k : Fin 512) :
    iblk m c 0 t (ix3 0 r k) = m ((c : Thread nD τ).loc main_arg0) (ix3 (batch t) r k) := by
  obtain ⟨⟨e0, e1, e2⟩, -⟩ := block_starts t
  show V m c main_arg0 (((cfg0.win 0).blk t).view.emb (ix3 0 r k)) = _
  rw [V_main_arg0]
  congr 1
  funext x; apply Fin.ext
  match x with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 512 + 1 * k.val = k.val; omega

theorem matrix_block (t : Fin cfg0.N) (k l : Fin 512) :
    iblk m c 1 t (ix2 k l) = m ((c : Thread nD τ).loc main_arg1) (ix2 k l) := by
  obtain ⟨-, ⟨e0, e1⟩, -⟩ := block_starts t
  show V m c main_arg1 (((cfg0.win 1).blk t).view.emb (ix2 k l)) = _
  rw [V_main_arg1]
  congr 1
  funext x; apply Fin.ext
  match x with
  | ⟨0, _⟩ => show win0_1.index t (0 : Fin 2) * 512 + 1 * k.val = k.val; omega
  | ⟨1, _⟩ => show win0_1.index t (1 : Fin 2) * 512 + 1 * l.val = l.val; omega

theorem bias_block (t : Fin cfg0.N) (l : Fin 512) :
    iblk m c 2 t (ix2 0 l) = m ((c : Thread nD τ).loc main_arg2) (ix1 l) := by
  obtain ⟨-, -, ⟨e0, e1⟩, -⟩ := block_starts t
  refine Eq.trans ?_ (bias_at m c l)
  show V m c main_v0 (((cfg0.win 2).blk t).view.emb (ix2 0 l)) = _
  congr 1
  funext x; apply Fin.ext
  match x with
  | ⟨0, _⟩ => show win0_2.index t (0 : Fin 2) * 1 + 1 * 0 = 0; omega
  | ⟨1, _⟩ => show win0_2.index t (1 : Fin 2) * 512 + 1 * l.val = l.val; omega

/-- The kernel's result at an entry. -/
theorem array_at (z : Fin 2) (r : Fin 1024) (l : Fin 512) :
    (dats m 0 c).arrAt 3 cfg0.N (ix3 z r l)
      = entry (fun k => m ((c : Thread nD τ).loc main_arg0) (ix3 z r k)) (fun k => m ((c : Thread nD τ).loc main_arg1) (ix2 k l))
          (m ((c : Thread nD τ).loc main_arg2) (ix1 l)) := by
  obtain ⟨t, rfl⟩ : ∃ t : Fin cfg0.N, z = batch t := ⟨⟨z.val, z.isLt⟩, rfl⟩
  have b := congrFun (Cert.ProjectIdeal.Value.blocks3 m c t (flush0_3 t)) (ix3 0 r l)
  rw [Cert.ProjectIdeal.Value.flushed3] at b
  have b' : (dats m 0 c).arrAt 3 cfg0.N (((cfg0.win 3).blk t).view.emb (ix3 0 r l))
      = out0_3 (F := Ideal) (iblk m c 0 t) (iblk m c 1 t) (iblk m c 2 t) (ix3 0 r l) := b
  obtain ⟨-, -, -, e0, e1, e2⟩ := block_starts t
  have he : ((cfg0.win 3).blk t).view.emb (ix3 0 r l) = ix3 (batch t) r l := by
    funext x; apply Fin.ext
    match x with
    | ⟨0, _⟩ => show win0_3.index t (0 : Fin 3) * 1 + 1 * 0 = t.val; omega
    | ⟨1, _⟩ => show win0_3.index t (1 : Fin 3) * 1024 + 1 * r.val = r.val; omega
    | ⟨2, _⟩ => show win0_3.index t (2 : Fin 3) * 512 + 1 * l.val = l.val; omega
  rw [he] at b'
  refine b'.trans ((block_at _ _ _ r l).trans ?_)
  rw [show (fun k => iblk m c 0 t (ix3 0 r k)) = _ from funext fun k => rows_block m c t r k,
    show (fun k => iblk m c 1 t (ix2 k l)) = _ from funext fun k => matrix_block m c t k l, bias_block]

end Kernel

section Reference
open Cert.ProjectReferenceIdeal Cert.ProjectReferenceIdeal.Gen

/-- The reference's product, at an entry. -/
theorem product_at (x : FVec Ideal S2x1024x512 .f32) (w : FVec Ideal S512x512 .f32) (z : Fin 2) (r : Fin 1024) (l : Fin 512) :
    Host.dotGeneral dot_S2x1024x512_S512x512_S2x1024x512_2_0_01_1_n_n none x w (ix3 z r l) = ∑ k : Fin 512, x (ix3 z r k) * w (ix2 k l) := by
  let d : DotDims S2x1024x512 S512x512 S2x1024x512 := dot_S2x1024x512_S512x512_S2x1024x512_2_0_01_1_n_n
  have hr : d.contr.rank = 1 := rfl
  have hs : d.contr.size ⟨0, by rw [hr]; exact Nat.one_pos⟩ = 512 := rfl
  refine (Ideal.dotGeneral_apply d none _ x w (ix3 z r l)).trans ?_
  rw [← Equiv.sum_comp (contrEquiv1 _ 512 hr hs).symm]
  refine Finset.sum_congr rfl fun k _ => ?_
  have hk := contrEquiv1_symm_val _ 512 hr hs k
  have el : d.lhsIdx (ix3 z r l) ((contrEquiv1 _ 512 hr hs).symm k) = ix3 z r k := by
    funext a; apply Fin.ext
    match a with
    | ⟨0, _⟩ => rfl
    | ⟨1, _⟩ => rfl
    | ⟨2, _⟩ => exact hk
  have er : d.rhsIdx (ix3 z r l) ((contrEquiv1 _ 512 hr hs).symm k) = ix2 k l := by
    funext a; apply Fin.ext
    match a with
    | ⟨0, _⟩ => exact hk
    | ⟨1, _⟩ => rfl
  rw [el, er]

/-- The reference's result at an entry. -/
theorem reference_at (x : FVec Ideal S2x1024x512 .f32) (w : FVec Ideal S512x512 .f32) (b : FVec Ideal S512 .f32) (z : Fin 2) (r : Fin 1024)
    (l : Fin 512) :
    addf (Host.dotGeneral dot_S2x1024x512_S512x512_S2x1024x512_2_0_01_1_n_n none x w)
        (broadcastInDim S2x1024x512 ![0, 1, 2] bcast_S1x1x512_S2x1024x512_0_1_2 (broadcastInDim S1x1x512 ![2] bcast_S512_S1x1x512_2 b)) (ix3 z r l)
      = entry (fun k => x (ix3 z r k)) (fun k => w (ix2 k l)) (b (ix1 l)) := by
  refine congrArg₂ (fun s t : EReal => s + t) (product_at x w z r l) ?_
  rw [broadcastInDim_apply (s := S1x1x512) _ _ _ (ix3 z r l) (ix3 0 0 l) (fun | ⟨0, _⟩ => rfl | ⟨1, _⟩ => rfl | ⟨2, _⟩ => rfl)]
  exact broadcastInDim_apply (s := S512) _ _ _ _ _ (fun (a : Fin 1) => by
    obtain rfl : a = 0 := Subsingleton.elim _ _
    rfl)

end Reference

/-! ## The claims -/

/-- Every run of the projection ends with the arguments as they were and no semaphore raised. -/
theorem frame_kernel : Cert.quiescent_Project (hProject := Cert.Project.Gen.facts) := fun m ρ _ => Cert.Project.Gen.frame m ρ
/-- The same of its idealization. -/
theorem frame_ideal : Cert.quiescent_ProjectIdeal (hProjectIdeal := Cert.ProjectIdeal.Gen.facts) :=
  fun m ρ _ => Cert.ProjectIdeal.Gen.frame m ρ
/-- The reference leaves its arguments as they were. -/
theorem frame_reference : Cert.quiescent_ProjectReferenceIdeal (hProjectReferenceIdeal := Cert.ProjectReferenceIdeal.Gen.facts) :=
  fun m ρ _ => (θ_run Cert.ProjectReferenceIdeal.defs _ _).mono (fun r h => ⟨fun c => (h c).2, sem_eq_zero_of_no_sems (by decide) r.2⟩)
    (Cert.ProjectReferenceIdeal.Value.run (F := Ideal) m ρ)

/-- The kernel's result and the reference's are one array. -/
theorem algebraic : Cert.algebraic_ProjectIdeal_ProjectReferenceIdeal (hProjectIdeal := Cert.ProjectIdeal.Gen.facts)
    (hProjectReferenceIdeal := Cert.ProjectReferenceIdeal.Gen.facts) := by
  intro m ρ m' ρ' _ hm
  refine ⟨fun c => (Cert.ProjectIdeal.Gen.dats m 0 c).arrAt 3 Cert.ProjectIdeal.cfg0.N, Cert.ProjectIdeal.Value.run_blocks (F := Ideal) m ρ,
    (θ_run Cert.ProjectReferenceIdeal.defs _ _).mono (fun r hr c => ⟨(hr c).1.trans ?_, (hr c).2⟩)
      (Cert.ProjectReferenceIdeal.Value.run (F := Ideal) m' ρ')⟩
  rw [(hm c).1, (hm c).2.1, (hm c).2.2]
  refine funext fun k => ?_
  obtain ⟨z, n, l, rfl⟩ : ∃ (z : Fin 2) (n : Fin 1024) (l : Fin 512), k = ix3 z n l :=
    ⟨k 0, k 1, k 2, eq_ix3 (n0 := 2) (n1 := 1024) (n2 := 512) k⟩
  exact (reference_at _ _ _ z n l).trans (array_at m c z n l).symm

end Cert.Proof.Proj

end

end
-- ==== Proof.Qkv.lean ====
module

public import proofs.«01_k».proof.Proof.Gen.Qkv.Frame
public import proofs.«01_k».proof.Proof.Gen.QkvIdeal.Value
public import proofs.«01_k».proof.Proof.Gen.QkvReferenceIdeal.Run
public import proofs.«01_k».proof.Defs
public import Idealize.ShloMosaic.Lib.Claim
public import Idealize.ShloMosaic.Lib.ValueLayout
public import Idealize.ShloMosaic.Lib.MatmulPlain
public import Idealize.ShloMosaic.Lib.Bf16Pair
public import Idealize.ShloMosaic.Lib.Bf16PairInverse

@[expose] public section

/-!
# Queries, keys and values from the features

The grid has two points; each takes one batch's `1024` rows and the whole matrix, whose columns are three groups of
`512`: queries, keys, values. It writes the queries, and keys and values rounded, two rows for each row of the batch: an
even row is a row of values and the odd row after it the same row of keys. At an entry, kernel and reference both hold
the row's product with one column of the matrix.
-/

noncomputable section

namespace Cert.Proof.Qkv

open Idealize.ShloMosaic Idealize.ShloMosaic.TcCoe Idealize.SL Idealize.SL.Sem ValueIdx
open scoped BigOperators

/-- A row times a column. -/
def entry (x : Fin 512 → EReal) (w : Fin 512 → EReal) : EReal := ∑ k : Fin 512, x k * w k

/-- The queries' column. -/
def queryCol (l : Fin 512) : Fin 1536 := ⟨l.val, by omega⟩
/-- The keys' column. -/
def keyCol (l : Fin 512) : Fin 1536 := ⟨512 + l.val, by omega⟩
/-- The values' column. -/
def valueCol (l : Fin 512) : Fin 1536 := ⟨1024 + l.val, by omega⟩
/-- The column that fills a row of a pair: the values' in the even row, the keys' in the odd one. -/
def pairCol (p : Fin 2) (l : Fin 512) : Fin 1536 := if p = 0 then valueCol l else keyCol l
/-- Row `p` of the pair that belongs to row `r`. -/
def pairRow (r : Fin 1024) (p : Fin 2) : Fin 2048 := ⟨2 * r.val + p.val, by omega⟩

section Kernel
open Cert.QkvIdeal Cert.QkvIdeal.Gen

/-- The body's product, at an entry. -/
theorem dense_at (x : FVec Ideal S1x1024x512 .f32) (w : FVec Ideal S512x1536 .f32) (r : Fin 1024) (l : Fin 1536) :
    k0_pay1 (F := Ideal) x w (ix2 r l) = entry (fun k => x (ix3 0 r k)) (fun k => w (ix2 k l)) := by
  unfold k0_pay1
  refine (Ideal.matmul_plain_apply none _ _ _ r l).trans ?_
  show Ideal.ofBits .f32 0x00000000#32 + _ = _
  rw [Ideal.ofBits_zero_f32, zero_add]
  exact Finset.sum_congr rfl fun k _ => congrArg (· * w (ix2 k l)) (shapeCast_1ab_ab_apply _ _ _ _)

/-- The queries it stores, at an entry. -/
theorem queries_at (x : FVec Ideal S1x1024x512 .f32) (w : FVec Ideal S512x1536 .f32) (r : Fin 1024) (l : Fin 512) :
    k0_pay2 (F := Ideal) x w (ix3 0 r l) = entry (fun k => x (ix3 0 r k)) (fun k => w (ix2 k (queryCol l))) := by
  unfold k0_pay2
  refine (shapeCast_ab_1ab_apply _ _ _ r l).trans (Eq.trans ?_ (dense_at x w r (queryCol l)))
  exact extractStridedSlice_apply _ _ _ _ _ (fun | ⟨0, _⟩ => (Nat.zero_add _).symm | ⟨1, _⟩ => (Nat.zero_add _).symm)

/-- The pair of rows it stores, at an entry. -/
theorem pairs_at (x : FVec Ideal S1x1024x512 .f32) (w : FVec Ideal S512x1536 .f32) (r : Fin 1024) (p : Fin 2) (l : Fin 512) :
    k0_pay3 (F := Ideal) x w (ix3 0 (pairRow r p) l) = entry (fun k => x (ix3 0 r k)) (fun k => w (ix2 k (pairCol p l))) := by
  have hs : rowsOfParity p S1x1024x512 (k0_pay3 (F := Ideal) x w) bitcasts_S1x2048x512_w16_S1x1024x512_w32 (ix3 0 r l)
      = k0_pay3 (F := Ideal) x w (ix3 0 (pairRow r p) l) := by
    unfold rowsOfParity
    refine congrArg (k0_pay3 (F := Ideal) x w) (funext fun a => Fin.ext ?_)
    match a with
    | ⟨0, _⟩ => rfl
    | ⟨1, _⟩ => rfl
    | ⟨2, _⟩ => rfl
  rw [← hs]
  unfold k0_pay3
  dsimp only
  refine (congrFun (rowsOfParity_interleaveRows p _ _ _) (ix3 0 r l)).trans ?_
  by_cases h : p = 0
  · rw [if_pos h, show pairCol p l = valueCol l from if_pos h]
    refine (shapeCast_ab_1ab_apply _ _ _ r l).trans (Eq.trans ?_ (dense_at x w r (valueCol l)))
    show extractStridedSlice S1024x512 ![0, 1024] (k0_pay1 (F := Ideal) x w) slices_S1024x1536_o0_1024_S1024x512 (ix2 r l) = _
    exact extractStridedSlice_apply _ _ _ _ _ (fun | ⟨0, _⟩ => (Nat.zero_add _).symm | ⟨1, _⟩ => rfl)
  · rw [if_neg h, show pairCol p l = keyCol l from if_neg h]
    refine (shapeCast_ab_1ab_apply _ _ _ r l).trans (Eq.trans ?_ (dense_at x w r (keyCol l)))
    show extractStridedSlice S1024x512 ![0, 512] (k0_pay1 (F := Ideal) x w) slices_S1024x1536_o0_512_S1024x512 (ix2 r l) = _
    exact extractStridedSlice_apply _ _ _ _ _ (fun | ⟨0, _⟩ => (Nat.zero_add _).symm | ⟨1, _⟩ => rfl)

/-- The body reads its rows whole. -/
theorem rows_read (x : FVec Ideal S1x1024x512 .f32) : View.ld (Val := Elt Ideal) (e' := .f32) x r0_0 = x :=
  View.ld_unit_zero (Val := Elt Ideal) (e := .f32) (S := S1x1024x512) (off := ![0, 0, 0]) (by decide) inb_S1x1024x512_S1x1024x512_0_0_0 x

/-- And the matrix. -/
theorem matrix_read (w : FVec Ideal S512x1536 .f32) : View.ld (Val := Elt Ideal) (e' := .f32) w r0_1 = w :=
  View.ld_unit_zero (Val := Elt Ideal) (e := .f32) (S := S512x1536) (off := ![0, 0]) (by decide) inb_S512x1536_S512x1536_0_0 w

theorem queries_block (x : FVec Ideal S1x1024x512 .f32) (w : FVec Ideal S512x1536 .f32) :
    out0_2 (F := Ideal) x w = k0_pay2 (F := Ideal) x w := by
  unfold out0_2
  refine (View.canon_unit_zero (by decide) _ _).trans ?_
  exact congrArg₂ (k0_pay2 (F := Ideal)) (rows_read x) (matrix_read w)

theorem pairs_block (x : FVec Ideal S1x1024x512 .f32) (w : FVec Ideal S512x1536 .f32) :
    out0_3 (F := Ideal) x w = k0_pay3 (F := Ideal) x w := by
  unfold out0_3
  refine (View.canon_unit_zero (by decide) _ _).trans ?_
  exact congrArg₂ (k0_pay3 (F := Ideal)) (rows_read x) (matrix_read w)

variable (m : (ℓ : Loc nD τ sig) → Buf (Elt Ideal) ℓ) (c : Dev nD)

/-- Where the blocks lie: the rows' and the results' by the point, the matrix's at the beginning. -/
theorem block_starts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- A point's batch. -/
def batch (t : Fin cfg0.N) : Fin 2 := ⟨t.val, t.isLt⟩

theorem rows_block (t : Fin cfg0.N) (r : Fin 1024) (k : Fin 512) :
    iblk m c 0 t (ix3 0 r k) = m ((c : Thread nD τ).loc main_arg0) (ix3 (batch t) r k) := by
  obtain ⟨⟨e0, e1, e2⟩, -⟩ := block_starts t
  show V m c main_arg0 (((cfg0.win 0).blk t).view.emb (ix3 0 r k)) = _
  rw [V_main_arg0]
  congr 1
  funext x; apply Fin.ext
  match x with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 512 + 1 * k.val = k.val; omega

theorem matrix_block (t : Fin cfg0.N) (k : Fin 512) (l : Fin 1536) :
    iblk m c 1 t (ix2 k l) = m ((c : Thread nD τ).loc main_arg1) (ix2 k l) := by
  obtain ⟨-, ⟨e0, e1⟩, -⟩ := block_starts t
  show V m c main_arg1 (((cfg0.win 1).blk t).view.emb (ix2 k l)) = _
  rw [V_main_arg1]
  congr 1
  funext x; apply Fin.ext
  match x with
  | ⟨0, _⟩ => show win0_1.index t (0 : Fin 2) * 512 + 1 * k.val = k.val; omega
  | ⟨1, _⟩ => show win0_1.index t (1 : Fin 2) * 1536 + 1 * l.val = l.val; omega

/-- A point's row times a column, from the arguments. -/
theorem entry_block (t : Fin cfg0.N) (r : Fin 1024) (l : Fin 1536) :
    entry (fun k => iblk m c 0 t (ix3 0 r k)) (fun k => iblk m c 1 t (ix2 k l))
      = entry (fun k => m ((c : Thread nD τ).loc main_arg0) (ix3 (batch t) r k)) (fun k => m ((c : Thread nD τ).loc main_arg1) (ix2 k l)) :=
  congrArg₂ entry (funext fun k => rows_block m c t r k) (funext fun k => matrix_block m c t k l)

/-- The kernel's queries at an entry. -/
theorem queries_array (z : Fin 2) (r : Fin 1024) (l : Fin 512) :
    (dats m 0 c).arrAt 2 cfg0.N (ix3 z r l)
      = entry (fun k => m ((c : Thread nD τ).loc main_arg0) (ix3 z r k)) (fun k => m ((c : Thread nD τ).loc main_arg1) (ix2 k (queryCol l))) := by
  obtain ⟨t, rfl⟩ : ∃ t : Fin cfg0.N, z = batch t := ⟨⟨z.val, z.isLt⟩, rfl⟩
  have b := congrFun (Cert.QkvIdeal.Value.blocks2 m c t (flush0_2 t)) (ix3 0 r l)
  rw [Cert.QkvIdeal.Value.flushed2] at b
  have b' : (dats m 0 c).arrAt 2 cfg0.N (((cfg0.win 2).blk t).view.emb (ix3 0 r l))
      = out0_2 (F := Ideal) (iblk m c 0 t) (iblk m c 1 t) (ix3 0 r l) := b
  obtain ⟨-, -, ⟨e0, e1, e2⟩, -⟩ := block_starts t
  have he : ((cfg0.win 2).blk t).view.emb (ix3 0 r l) = ix3 (batch t) r l := by
    funext x; apply Fin.ext
    match x with
    | ⟨0, _⟩ => show win0_2.index t (0 : Fin 3) * 1 + 1 * 0 = t.val; omega
    | ⟨1, _⟩ => show win0_2.index t (1 : Fin 3) * 1024 + 1 * r.val = r.val; omega
    | ⟨2, _⟩ => show win0_2.index t (2 : Fin 3) * 512 + 1 * l.val = l.val; omega
  rw [he, queries_block] at b'
  exact b'.trans ((queries_at _ _ r l).trans (entry_block m c t r _))

/-- The kernel's pairs of rows at an entry. -/
theorem pairs_array (z : Fin 2) (r : Fin 1024) (p : Fin 2) (l : Fin 512) :
    (dats m 0 c).arrAt 3 cfg0.N (ix3 z (pairRow r p) l)
      = entry (fun k => m ((c : Thread nD τ).loc main_arg0) (ix3 z r k)) (fun k => m ((c : Thread nD τ).loc main_arg1) (ix2 k (pairCol p l))) := by
  obtain ⟨t, rfl⟩ : ∃ t : Fin cfg0.N, z = batch t := ⟨⟨z.val, z.isLt⟩, rfl⟩
  have b := congrFun (Cert.QkvIdeal.Value.blocks3 m c t (flush0_3 t)) (ix3 0 (pairRow r p) l)
  rw [Cert.QkvIdeal.Value.flushed3] at b
  have b' : (dats m 0 c).arrAt 3 cfg0.N (((cfg0.win 3).blk t).view.emb (ix3 0 (pairRow r p) l))
      = out0_3 (F := Ideal) (iblk m c 0 t) (iblk m c 1 t) (ix3 0 (pairRow r p) l) := b
  obtain ⟨-, -, -, e0, e1, e2⟩ := block_starts t
  have he : ((cfg0.win 3).blk t).view.emb (ix3 0 (pairRow r p) l) = ix3 (batch t) (pairRow r p) l := by
    funext x; apply Fin.ext
    match x with
    | ⟨0, _⟩ => show win0_3.index t (0 : Fin 3) * 1 + 1 * 0 = t.val; omega
    | ⟨1, _⟩ => show win0_3.index t (1 : Fin 3) * 2048 + 1 * (pairRow r p).val = (pairRow r p).val; omega
    | ⟨2, _⟩ => show win0_3.index t (2 : Fin 3) * 512 + 1 * l.val = l.val; omega
  rw [he, pairs_block] at b'
  exact b'.trans ((pairs_at _ _ r p l).trans (entry_block m c t r _))

end Kernel

section Reference
open Cert.QkvReferenceIdeal Cert.QkvReferenceIdeal.Gen

/-- The reference's product. -/
def product (x : FVec Ideal S2x1024x512 .f32) (w : FVec Ideal S512x1536 .f32) : FVec Ideal S2x1024x1536 .f32 :=
  Host.dotGeneral dot_S2x1024x512_S512x1536_S2x1024x1536_2_0_01_1_n_n none x w

/-- At an entry. -/
theorem product_at (x : FVec Ideal S2x1024x512 .f32) (w : FVec Ideal S512x1536 .f32) (z : Fin 2) (r : Fin 1024) (l : Fin 1536) :
    product x w (ix3 z r l) = entry (fun k => x (ix3 z r k)) (fun k => w (ix2 k l)) := by
  let d : DotDims S2x1024x512 S512x1536 S2x1024x1536 := dot_S2x1024x512_S512x1536_S2x1024x1536_2_0_01_1_n_n
  have hr : d.contr.rank = 1 := rfl
  have hs : d.contr.size ⟨0, by rw [hr]; exact Nat.one_pos⟩ = 512 := rfl
  refine (Ideal.dotGeneral_apply d none _ x w (ix3 z r l)).trans ?_
  rw [← Equiv.sum_comp (contrEquiv1 _ 512 hr hs).symm]
  refine Finset.sum_congr rfl fun k _ => ?_
  have hk := contrEquiv1_symm_val _ 512 hr hs k
  have el : d.lhsIdx (ix3 z r l) ((contrEquiv1 _ 512 hr hs).symm k) = ix3 z r k := by
    funext a; apply Fin.ext
    match a with
    | ⟨0, _⟩ => rfl
    | ⟨1, _⟩ => rfl
    | ⟨2, _⟩ => exact hk
  have er : d.rhsIdx (ix3 z r l) ((contrEquiv1 _ 512 hr hs).symm k) = ix2 k l := by
    funext a; apply Fin.ext
    match a with
    | ⟨0, _⟩ => exact hk
    | ⟨1, _⟩ => rfl
  rw [el, er]

/-- The reference's pairs of rows: values and keys joined on a new axis, rounded, and the axis merged with the rows'. -/
def pairs (q : FVec Ideal S2x1024x1536 .f32) : FVec Ideal S2x2048x512 .bf16 :=
  shapeCast _ (truncf .bf16 (concatenate S2x1024x2x512 2
    [⟨S2x1024x1x512, broadcastInDim S2x1024x1x512 ![0, 1, 3] bcast_S2x1024x512_S2x1024x1x512_0_1_3
        (extractStridedSlice S2x1024x512 ![0, 0, 1024] q slices_S2x1024x1536_S2x1024x512_0_0_1024)⟩,
     ⟨S2x1024x1x512, broadcastInDim S2x1024x1x512 ![0, 1, 3] bcast_S2x1024x512_S2x1024x1x512_0_1_3
        (extractStridedSlice S2x1024x512 ![0, 0, 512] q slices_S2x1024x1536_S2x1024x512_0_0_512)⟩]
    concatenates_S2x1024x1x512_S2x1024x1x512_S2x1024x2x512_d2) bitsLt_bf16_f32) shapeCasts_S2x1024x2x512_S2x2048x512

/-- At an entry, one of the product's. -/
theorem pairs_reference (q : FVec Ideal S2x1024x1536 .f32) (z : Fin 2) (r : Fin 1024) (p : Fin 2) (l : Fin 512) :
    pairs q (ix3 z (pairRow r p) l) = q (ix3 z r (pairCol p l)) := by
  refine (shapeCast_apply _ _ _ (ix4 z r p l) (by
    rw [Shape.rowMajor_val_four, Shape.rowMajor_val_three]
    show ((z.val * 1024 + r.val) * 2 + p.val) * 512 + l.val = (z.val * 2048 + (2 * r.val + p.val)) * 512 + l.val
    omega)).trans ?_
  have hb : ∀ x : FVec Ideal S2x1024x512 .f32, broadcastInDim S2x1024x1x512 ![0, 1, 3] bcast_S2x1024x512_S2x1024x1x512_0_1_3 x (ix4 z r 0 l)
      = x (ix3 z r l) := fun x =>
    broadcastInDim_apply (s := S2x1024x512) _ _ _ _ _ (fun | ⟨0, _⟩ => rfl | ⟨1, _⟩ => rfl | ⟨2, _⟩ => rfl)
  by_cases h : p = 0
  · rw [show pairCol p l = valueCol l from if_pos h]
    refine (concatenate_pair_apply_left (t := S2x1024x2x512) (s₁ := S2x1024x1x512) (s₂ := S2x1024x1x512) (2 : Fin 4) _ _
      concatenates_S2x1024x1x512_S2x1024x1x512_S2x1024x2x512_d2
      (ix4 z r p l) rfl (ix4 z r (0 : Fin 1) l) (fun
        | ⟨0, _⟩ => rfl | ⟨1, _⟩ => rfl | ⟨2, _⟩ => (congrArg Fin.val h).symm | ⟨3, _⟩ => rfl)).trans ?_
    rw [hb]
    exact extractStridedSlice_apply _ _ _ _ _ (fun
      | ⟨0, _⟩ => (Nat.zero_add _).symm | ⟨1, _⟩ => (Nat.zero_add _).symm | ⟨2, _⟩ => rfl)
  · rw [show pairCol p l = keyCol l from if_neg h]
    have h1 : p.val = 1 := by omega
    refine (concatenate_pair_apply_right (t := S2x1024x2x512) (s₁ := S2x1024x1x512) (s₂ := S2x1024x1x512) (2 : Fin 4) _ _
      concatenates_S2x1024x1x512_S2x1024x1x512_S2x1024x2x512_d2
      (ix4 z r p l) rfl rfl (ix4 z r (0 : Fin 1) l) (fun
        | ⟨0, _⟩ => fun _ => rfl | ⟨1, _⟩ => fun _ => rfl | ⟨2, _⟩ => fun hne => absurd rfl hne
        | ⟨3, _⟩ => fun _ => rfl) (show 0 + 1 = p.val by omega)).trans ?_
    rw [hb]
    exact extractStridedSlice_apply _ _ _ _ _ (fun
      | ⟨0, _⟩ => (Nat.zero_add _).symm | ⟨1, _⟩ => (Nat.zero_add _).symm | ⟨2, _⟩ => rfl)

/-- The reference's queries at an entry. -/
theorem queries_reference (q : FVec Ideal S2x1024x1536 .f32) (z : Fin 2) (r : Fin 1024) (l : Fin 512) :
    extractStridedSlice S2x1024x512 ![0, 0, 0] q slices_S2x1024x1536_S2x1024x512_0_0_0 (ix3 z r l) = q (ix3 z r (queryCol l)) :=
  extractStridedSlice_apply _ _ _ _ _ (fun
    | ⟨0, _⟩ => (Nat.zero_add _).symm | ⟨1, _⟩ => (Nat.zero_add _).symm | ⟨2, _⟩ => (Nat.zero_add _).symm)

end Reference

/-! ## The claims -/

/-- Every run ends with the arguments as they were and no semaphore raised. -/
theorem frame_kernel : Cert.quiescent_Qkv (hQkv := Cert.Qkv.Gen.facts) := fun m ρ _ => Cert.Qkv.Gen.frame m ρ
/-- The same of its idealization. -/
theorem frame_ideal : Cert.quiescent_QkvIdeal (hQkvIdeal := Cert.QkvIdeal.Gen.facts) := fun m ρ _ => Cert.QkvIdeal.Gen.frame m ρ
/-- The reference leaves its arguments as they were. -/
theorem frame_reference : Cert.quiescent_QkvReferenceIdeal (hQkvReferenceIdeal := Cert.QkvReferenceIdeal.Gen.facts) :=
  fun m ρ _ => (θ_run Cert.QkvReferenceIdeal.defs _ _).mono (fun r h => ⟨fun c => (h c).2.2, sem_eq_zero_of_no_sems (by decide) r.2⟩)
    (Cert.QkvReferenceIdeal.Value.run (F := Ideal) m ρ)

/-- What the idealization reads in place of words of two rounded numbers: the numbers themselves. -/
theorem preserves : Cert.preserves_Qkv_QkvIdeal :=
  ⟨IdealRules.bf16_pair.halfStatement _, IdealRules.bf16_pair.statement _ _ Cert.QkvIdeal.Gen.bitcasts_S1x2048x512_w16_S1x1024x512_w32⟩

/-- The kernel's two results are the reference's. -/
theorem algebraic : Cert.algebraic_QkvIdeal_QkvReferenceIdeal (hQkvIdeal := Cert.QkvIdeal.Gen.facts)
    (hQkvReferenceIdeal := Cert.QkvReferenceIdeal.Gen.facts) := by
  intro m ρ m' ρ' _ hm
  refine ⟨fun c => (Cert.QkvIdeal.Gen.dats m 0 c).arrAt 2 Cert.QkvIdeal.cfg0.N, fun c => (Cert.QkvIdeal.Gen.dats m 0 c).arrAt 3 Cert.QkvIdeal.cfg0.N,
    Cert.QkvIdeal.Value.run_blocks (F := Ideal) m ρ,
    (θ_run Cert.QkvReferenceIdeal.defs _ _).mono (fun r hr c => ⟨(hr c).1.trans ?_, (hr c).2.1.trans ?_, (hr c).2.2⟩)
      (Cert.QkvReferenceIdeal.Value.run (F := Ideal) m' ρ')⟩
  · rw [(hm c).1, (hm c).2]
    refine funext fun k => ?_
    obtain ⟨z, n, l, rfl⟩ : ∃ (z : Fin 2) (n : Fin 1024) (l : Fin 512), k = ix3 z n l :=
      ⟨k 0, k 1, k 2, eq_ix3 (n0 := 2) (n1 := 1024) (n2 := 512) k⟩
    exact (queries_reference _ z n l).trans ((product_at _ _ z n _).trans (queries_array m c z n l).symm)
  · rw [(hm c).1, (hm c).2]
    refine funext fun k => ?_
    obtain ⟨z, R, l, rfl⟩ : ∃ (z : Fin 2) (R : Fin 2048) (l : Fin 512), k = ix3 z R l :=
      ⟨k 0, k 1, k 2, eq_ix3 (n0 := 2) (n1 := 2048) (n2 := 512) k⟩
    obtain ⟨n, p, rfl⟩ : ∃ (n : Fin 1024) (p : Fin 2), R = pairRow n p :=
      ⟨⟨R.val / 2, by omega⟩, ⟨R.val % 2, by omega⟩, Fin.ext (by show R.val = 2 * (R.val / 2) + R.val % 2; omega)⟩
    exact (pairs_reference _ z n p l).trans ((product_at _ _ z n _).trans (pairs_array m c z n p l).symm)

end Cert.Proof.Qkv

end

end
-- ==== Proof.SearchRow.lean ====
module

public import Idealize.ShloMosaic.Lib.SortPrefix
public import Idealize.ShloMosaic.Lib.SortKey
public import Idealize.ShloMosaic.Lib.SortNet.Extract

@[expose] public section

/-!
# One row of the neighbour search

A row holds `1024` words. The search cuts the low ten bits off each and writes the position there, so that the keys are
different and their signed order is that of the cut words, ties by position. Each round takes the least key and replaces
it by the greatest word. The key taken in round `n` is the one of the position that a stable sort of the row puts at `n`.
-/

namespace Cert.Proof.Search

open Idealize.ShloMosaic

/-- The word without its low ten bits. -/
def cut (w : BitVec 32) : BitVec 32 := w &&& 4294966272#32
/-- The cut word with a position in its low ten bits. -/
def key (w : BitVec 32) (j : Fin 1024) : BitVec 32 := cut w ||| BitVec.ofNat 32 j.val
/-- The greatest word. -/
def top : BitVec 32 := 2147483647#32

theorem cut_eq_shift (w : BitVec 32) : cut w = (w >>> 10) <<< 10 := by
  have hm : ∀ i : Fin 32, (4294966272#32).getLsbD i.val = decide (10 ≤ i.val) := by decide
  refine BitVec.eq_of_getLsbD_eq fun i hi => ?_
  have := hm ⟨i, hi⟩
  simp only at this
  simp only [cut, BitVec.getLsbD_and, this, BitVec.getLsbD_shiftLeft, BitVec.getLsbD_ushiftRight, hi, decide_true, Bool.true_and]
  by_cases h : 10 ≤ i
  · rw [decide_eq_true h, Bool.and_true, show decide (i < 10) = false from decide_eq_false (by omega), Bool.not_false, Bool.true_and,
      show 10 + (i - 10) = i by omega]
  · rw [decide_eq_false h, Bool.and_false, show decide (i < 10) = true from decide_eq_true (by omega), Bool.not_true, Bool.false_and]

theorem cut_toNat (w : BitVec 32) : (cut w).toNat = w.toNat / 1024 * 1024 := by
  rw [cut_eq_shift, BitVec.toNat_shiftLeft, BitVec.toNat_ushiftRight, Nat.shiftRight_eq_div_pow, Nat.shiftLeft_eq]
  have := w.isLt
  omega

theorem key_toNat (w : BitVec 32) (j : Fin 1024) : (key w j).toNat = w.toNat / 1024 * 1024 + j.val := by
  have hj := j.isLt
  rw [key, BitVec.toNat_or, cut_toNat, BitVec.toNat_ofNat, Nat.mod_eq_of_lt (by omega)]
  have := Nat.two_pow_add_eq_or_of_lt (i := 10) (b := j.val) (by omega) (w.toNat / 1024)
  rw [show (2 : ℕ) ^ 10 = 1024 from rfl] at this
  rw [Nat.mul_comm, ← this]

/-- As integers, a key is its cut word and the position. -/
theorem key_toInt (w : BitVec 32) (j : Fin 1024) : (key w j).toInt = (cut w).toInt + j.val := by
  have hj := j.isLt
  have hw := w.isLt
  rw [BitVec.toInt_eq_toNat_cond, BitVec.toInt_eq_toNat_cond, key_toNat, cut_toNat]
  split <;> split <;> omega

/-- Cut words differ by multiples of 1024. -/
theorem cut_toInt_dvd (w : BitVec 32) : (1024 : ℤ) ∣ (cut w).toInt := by
  rw [BitVec.toInt_eq_toNat_cond, cut_toNat]
  split <;> omega

/-- The position is what the low ten bits hold. -/
theorem key_low (w : BitVec 32) (j : Fin 1024) : key w j &&& 1023#32 = BitVec.ofNat 32 j.val := by
  have hj := j.isLt
  refine BitVec.eq_of_toNat_eq ?_
  rw [BitVec.toNat_and, key_toNat, BitVec.toNat_ofNat, BitVec.toNat_ofNat, show 1023 % 2 ^ 32 = 2 ^ 10 - 1 from rfl,
    Nat.and_two_pow_sub_one_eq_mod]
  omega

/-- The other bits are the cut word. -/
theorem key_high (w : BitVec 32) (j : Fin 1024) : key w j &&& 4294966272#32 = cut w := by
  have hj := j.isLt
  refine BitVec.eq_of_toNat_eq ?_
  show (cut (key w j)).toNat = _
  rw [cut_toNat, cut_toNat, key_toNat]
  omega

/-- Different positions have different keys. -/
theorem key_injective (w : Fin 1024 → BitVec 32) : Function.Injective fun j => key (w j) j := fun a b h => by
  have e := congrArg (· &&& 1023#32) h
  simp only [key_low] at e
  have e' := congrArg BitVec.toNat e
  rw [BitVec.toNat_ofNat, BitVec.toNat_ofNat] at e'
  have ha := a.isLt
  have hb := b.isLt
  exact Fin.ext (by omega)

/-- A row's order: by its words, read as signed numbers. -/
def before (κ : Fin 1024 → BitVec 32) (a b : Fin 1024) : Bool := (κ a).slt (κ b)

theorem before_iff (κ : Fin 1024 → BitVec 32) (a b : Fin 1024) : before κ a b = true ↔ (κ a).toInt < (κ b).toInt := by
  simp [before, BitVec.slt]

theorem before_strict {κ : Fin 1024 → BitVec 32} (h : Function.Injective κ) : StrictTotalBefore (before κ) where
  irrefl a := by rw [Bool.eq_false_iff, Ne, before_iff]; exact lt_irrefl _
  trans a b c hab hbc := by rw [before_iff] at hab hbc ⊢; exact lt_trans hab hbc
  total a b hne := by
    rw [before_iff, before_iff]
    exact lt_or_gt_of_ne fun e => hne (h (BitVec.eq_of_toInt_eq e))

/-- Along the sort the words grow. -/
theorem sorted_le {κ : Fin 1024 → BitVec 32} (h : Function.Injective κ) {i j : Fin 1024} (hij : i ≤ j) :
    (κ (sortedFrom (before κ) i)).toInt ≤ (κ (sortedFrom (before κ) j)).toInt := by
  rcases hij.eq_or_lt with rfl | hlt
  · exact le_refl _
  · have hB := before_strict h
    have e := sortedFrom_noInversion (before κ) (before κ) (fun a b h => hB.asymm a b h) (fun _ _ h => h) hB.negTrans i j hlt
    rw [Bool.eq_false_iff, Ne, before_iff] at e
    exact not_lt.mp e

theorem toInt_le_top (w : BitVec 32) : w.toInt ≤ top.toInt := by
  have := BitVec.toInt_lt (x := w)
  have e : top.toInt = 2147483647 := by decide
  omega

/-- The rounds: `R n` is the row before round `n`, `m n` the least word of it, which the round replaces by the greatest
    word. Round `n` takes the word that the sort puts at `n`. -/
theorem rounds_take {κ : Fin 1024 → BitVec 32} (hκ : Function.Injective κ) (R : ℕ → Fin 1024 → BitVec 32) (m : ℕ → BitVec 32)
    (h0 : R 0 = κ) (hle : ∀ n j, (m n).toInt ≤ (R n j).toInt) (hmem : ∀ n, m n = top ∨ ∃ j, m n = R n j)
    (hs : ∀ n j, R (n + 1) j = if R n j = m n then top else R n j) (n : ℕ) (hn : n < 1024) :
    m n = κ (sortedFrom (before κ) ⟨n, hn⟩) := by
  let σ := sortedFrom (before κ)
  have hinj : Function.Injective σ := sortedFrom_injective _
  have hsurj : Function.Surjective σ := sortedFrom_surjective _
  -- the row before round `n`: the first `n` positions of the sort are taken
  have step : ∀ n (hn : n < 1024), (∀ i : Fin 1024, R n (σ i) = if i.val < n then top else κ (σ i)) → m n = κ (σ ⟨n, hn⟩) := by
    intro n hn hR
    refine BitVec.eq_of_toInt_eq (le_antisymm ?_ ?_)
    · have := hle n (σ ⟨n, hn⟩)
      rwa [hR, if_neg (lt_irrefl n)] at this
    · rcases hmem n with e | ⟨j, e⟩
      · rw [e]; exact toInt_le_top _
      · obtain ⟨i, rfl⟩ := hsurj j
        rw [e, hR]
        split
        · exact toInt_le_top _
        · exact sorted_le hκ (show n ≤ i.val by omega)
  have inv : ∀ n, n ≤ 1024 → ∀ i : Fin 1024, R n (σ i) = if i.val < n then top else κ (σ i) := by
    intro n
    induction n with
    | zero => intro _ i; rw [h0, if_neg (Nat.not_lt_zero _)]
    | succ n ih =>
      intro hn i
      have hm := step n (by omega) (ih (by omega))
      rw [hs, hm, ih (by omega) i]
      by_cases h1 : i.val < n
      · rw [show (if i.val < n then top else κ (σ i)) = top from if_pos h1,
          show (if i.val < n + 1 then top else κ (σ i)) = top from if_pos (by omega)]
        split <;> rfl
      · rw [show (if i.val < n then top else κ (σ i)) = κ (σ i) from if_neg h1]
        by_cases h2 : i.val = n
        · rw [show (if i.val < n + 1 then top else κ (σ i)) = top from if_pos (by omega)]
          exact if_pos (congrArg (fun k => κ (σ k)) (Fin.ext h2 : i = ⟨n, by omega⟩))
        · rw [show (if i.val < n + 1 then top else κ (σ i)) = κ (σ i) from if_neg (by omega)]
          exact if_neg fun e => h2 (congrArg Fin.val (hinj (hκ e)))
  exact step n hn (inv n (by omega))

/-- A stable sort of ascending positions asks its order only of a later position and an earlier one. -/
theorem stableSort_congr_later {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_congr_later {n : ℕ} (R R' : Fin n → Fin n → Bool) (h : ∀ a b, a < b → R b a = R' b a) :
    sortedFrom R = sortedFrom R' := by
  funext k
  unfold sortedFrom
  rw [List.get_of_eq (show sortPositions n R = sortPositions n R' from
    stableSort_congr_later R R' h _ (List.pairwise_lt_finRange n))]
  rfl

/-- Greatest complement first, ties by position, is least key first. -/
theorem sortedFrom_complements (w : Fin 1024 → BitVec 32) :
    sortedFrom (fun a b => IntOp.cmpi .sgt (~~~ cut (w a)) (~~~ cut (w b)) == 1#1) = sortedFrom (before fun j => key (w j) j) := by
  refine sortedFrom_congr_later _ _ fun a b hab => ?_
  rw [Bool.eq_iff_iff, before_iff, key_toInt, key_toInt]
  have hc : (IntOp.cmpi .sgt (~~~ cut (w b)) (~~~ cut (w a)) == 1#1) = true ↔ (cut (w b)).toInt < (cut (w a)).toInt := by
    rw [← not_slt_not_iff, ← BitVec.slt_iff_toInt_lt]
    show (BitVec.ofBool ((~~~ cut (w a)).slt (~~~ cut (w b))) == 1#1) = true ↔ _
    cases (~~~ cut (w a)).slt (~~~ cut (w b)) <;> decide
  rw [hc]
  obtain ⟨p, hp⟩ := cut_toInt_dvd (w a)
  obtain ⟨q, hq⟩ := cut_toInt_dvd (w b)
  have ha := a.isLt
  have hb := b.isLt
  have hab' : a.val < b.val := hab
  rw [hp, hq]
  omega

/-- A fold of the signed minimum over a set is at most the start and every word met, and is one of them. -/
theorem fold_least {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl Finset.fold_empty⟩
  | insert a s ha ih =>
    rw [Finset.fold_insert ha]
    have hm := SortNet.toInt_minsi (g a) (s.fold IntOp.minsi init g)
    refine ⟨fun i hi => ?_, ?_⟩
    · rw [hm]
      rcases Finset.mem_insert.mp hi with rfl | hi
      · exact min_le_left _ _
      · exact (min_le_right _ _).trans (ih.1 i hi)
    · rcases min_choice (g a).toInt (s.fold IntOp.minsi init g).toInt with h | h
      · exact Or.inr ⟨a, Finset.mem_insert_self a s, BitVec.eq_of_toInt_eq (hm.trans h)⟩
      · have e := BitVec.eq_of_toInt_eq (hm.trans h)
        rcases ih.2 with h3 | ⟨i, hi, h3⟩
        · exact Or.inl (e.trans h3)
        · exact Or.inr ⟨i, Finset.mem_insert_of_mem hi, e.trans h3⟩

end Cert.Proof.Search

end
-- ==== Proof.SearchBlock.lean ====
module

public import proofs.«01_k».proof.Proof.Gen.Search.Value
public import proofs.«01_k».proof.Proof.SearchRow
public import Idealize.ShloMosaic.Lib.ValueLayout

@[expose] public section

/-!
# The rounds of the neighbour search

The body holds one key for each of `256` rows and `1024` positions and takes the least key of every row thirty-two times.
Here its values are written as one round repeated, and read at an entry.
-/

noncomputable section

namespace Cert.Proof.Search

open Idealize.ShloMosaic Idealize.ShloMosaic.TcCoe ValueIdx
open Cert.Search Cert.Search.Gen

/-- Each row's least key. -/
def least (K : IVec S256x1024 32) : IVec S256x1 32 :=
  shapeCast S256x1 (multiReductionI .minsi [1] S256 K 2147483647#32 reduces_S256x1024_S256 rfl) shapeCasts_S256_S256x1
/-- Where a key is its row's least. -/
def taken (K : IVec S256x1024 32) : IVec S256x1024 1 := cmpi .eq K (broadcastTo S256x1024 (least K) broadcasts_S256x1_S256x1024)
/-- The keys after a round: the least replaced by the greatest word. -/
def after (K : IVec S256x1024 32) : IVec S256x1024 32 := select (taken K) (broadcast S256x1024 2147483647#32) K
/-- The keys after some rounds. -/
def rounds (K : IVec S256x1024 32) : ℕ → IVec S256x1024 32
  | 0 => K
  | n + 1 => after (rounds K n)
/-- The position in a key. -/
def number (M : IVec S256x1 32) : IVec S256x1 32 := andi M (broadcast S256x1 1023#32)

theorem rounds_rounds (K : IVec S256x1024 32) (a b : ℕ) : rounds (rounds K a) b = rounds K (a + b) := by
  induction b with
  | zero => rfl
  | succ b ih => exact congrArg after ih

section Payloads
variable {F : FTy → Type} [BitOps F]

/-- The distance in a key. -/
def root (M : IVec S256x1 32) : FVec F S256x1 .f32 :=
  sqrt (addf (bitcastToFloat .f32 (andi M (broadcast S256x1 4294966272#32))) (broadcast S256x1 (Scalar.ofBits .f32 0x2B8CBCCC#32)))

theorem p7 (K : IVec S256x1024 32) : k0_pay7 (F := F) (least K) k0_pay6 = root (least K) := rfl
theorem p10 (K : IVec S256x1024 32) : k0_pay10 K (least K) = number (least (rounds K 1)) := rfl
theorem p14 (K : IVec S256x1024 32) : k0_pay14 K (least K) = number (least (rounds K 2)) := rfl
theorem p18 (K : IVec S256x1024 32) : k0_pay18 K (least K) = number (least (rounds K 3)) := rfl
theorem p23 (K : IVec S256x1024 32) : k0_pay23 K (least K) = number (least (rounds K 1)) := rfl
theorem p27 (K : IVec S256x1024 32) : k0_pay27 K (least K) = number (least (rounds K 2)) := rfl
theorem p31 (K : IVec S256x1024 32) : k0_pay31 K (least K) = number (least (rounds K 3)) := rfl
theorem p35 (K : IVec S256x1024 32) : k0_pay35 K (least K) = number (least (rounds K 1)) := rfl
theorem p39 (K : IVec S256x1024 32) : k0_pay39 K (least K) = number (least (rounds K 2)) := rfl
theorem p43 (K : IVec S256x1024 32) : k0_pay43 K (least K) = number (least (rounds K 3)) := rfl
theorem p11 (K : IVec S256x1024 32) : k0_pay11 (F := F) K (least K) = root (least (rounds K 1)) := rfl
theorem p15 (K : IVec S256x1024 32) : k0_pay15 (F := F) K (least K) = root (least (rounds K 2)) := rfl
theorem p24 (K : IVec S256x1024 32) : k0_pay24 (F := F) K (least K) = root (least (rounds K 1)) := rfl
theorem p28 (K : IVec S256x1024 32) : k0_pay28 (F := F) K (least K) = root (least (rounds K 2)) := rfl
theorem p32 (K : IVec S256x1024 32) : k0_pay32 (F := F) K (least K) = root (least (rounds K 3)) := rfl
theorem p36 (K : IVec S256x1024 32) : k0_pay36 (F := F) K (least K) = root (least (rounds K 1)) := rfl
theorem p40 (K : IVec S256x1024 32) : k0_pay40 (F := F) K (least K) = root (least (rounds K 2)) := rfl
theorem p44 (K : IVec S256x1024 32) : k0_pay44 (F := F) K (least K) = root (least (rounds K 3)) := rfl
theorem p20 (K : IVec S256x1024 32) : k0_pay20 (k0_pay19 (F := F) K (least K)) (Scalar.ofBits .f32 0x2B8CBCCC#32) = root (least (rounds K 3)) := rfl
theorem p16 (K : IVec S256x1024 32) : k0_pay16 K (least K) = rounds K 3 := rfl
theorem p17 (K : IVec S256x1024 32) : k0_pay17 K (least K) = least (rounds K 3) := rfl
theorem p29 (K : IVec S256x1024 32) : k0_pay29 K (least K) = rounds K 3 := rfl
theorem p30 (K : IVec S256x1024 32) : k0_pay30 K (least K) = least (rounds K 3) := rfl
theorem p41 (K : IVec S256x1024 32) : k0_pay41 K (least K) = rounds K 3 := rfl
theorem p45 (K : IVec S256x1024 32) : k0_pay45 K (least K) = taken (rounds K 3) := rfl
theorem p48 (K : IVec S256x1024 32) : k0_pay48 K (taken K) 2147483647#32 = number (least (rounds K 1)) := rfl
theorem p52 (K : IVec S256x1024 32) : k0_pay52 K (taken K) 2147483647#32 = number (least (rounds K 2)) := rfl
theorem p56 (K : IVec S256x1024 32) : k0_pay56 K (taken K) 2147483647#32 = number (least (rounds K 3)) := rfl
theorem p49 (K : IVec S256x1024 32) : k0_pay49 (F := F) K (taken K) 2147483647#32 = root (least (rounds K 1)) := rfl
theorem p53 (K : IVec S256x1024 32) : k0_pay53 (F := F) K (taken K) 2147483647#32 = root (least (rounds K 2)) := rfl
theorem p57 (K : IVec S256x1024 32) : k0_pay57 (F := F) K (taken K) 2147483647#32 = root (least (rounds K 3)) := rfl
theorem p58 (K : IVec S256x1024 32) : k0_pay58 K (taken K) 2147483647#32 = rounds K 4 := rfl
theorem p60 (K : IVec S256x1024 32) : k0_pay60 K = number (least K) := rfl
theorem p64 (K : IVec S256x1024 32) : k0_pay64 K = number (least (rounds K 1)) := rfl
theorem p68 (K : IVec S256x1024 32) : k0_pay68 K = number (least (rounds K 2)) := rfl
theorem p61 (K : IVec S256x1024 32) : k0_pay61 (F := F) K = root (least K) := rfl
theorem p65 (K : IVec S256x1024 32) : k0_pay65 (F := F) K = root (least (rounds K 1)) := rfl
theorem p69 (K : IVec S256x1024 32) : k0_pay69 (F := F) K = root (least (rounds K 2)) := rfl
theorem p70 (K : IVec S256x1024 32) : k0_pay70 K = rounds K 3 := rfl
theorem p71 (K : IVec S256x1024 32) : k0_pay71 K = least (rounds K 3) := rfl
theorem p72 (K : IVec S256x1024 32) : k0_pay72 (least K) 1023#32 = number (least K) := rfl
theorem p73 (K : IVec S256x1024 32) : k0_pay73 (F := F) (least K) = root (least K) := rfl
theorem p76 (K : IVec S256x1024 32) : k0_pay76 K (least K) = number (least (rounds K 1)) := rfl
theorem p80 (K : IVec S256x1024 32) : k0_pay80 K (least K) = number (least (rounds K 2)) := rfl
theorem p84 (K : IVec S256x1024 32) : k0_pay84 K (least K) = number (least (rounds K 3)) := rfl
theorem p77 (K : IVec S256x1024 32) : k0_pay77 (F := F) K (least K) = root (least (rounds K 1)) := rfl
theorem p81 (K : IVec S256x1024 32) : k0_pay81 (F := F) K (least K) = root (least (rounds K 2)) := rfl
theorem p82 (K : IVec S256x1024 32) : k0_pay82 K (least K) = rounds K 3 := rfl
theorem p83 (K : IVec S256x1024 32) : k0_pay83 K (least K) = least (rounds K 3) := rfl
theorem p85 (K : IVec S256x1024 32) : k0_pay85 (F := F) (least K) 4294966272#32 = root (least K) := rfl
theorem p88 (K : IVec S256x1024 32) : k0_pay88 K (least K) = number (least (rounds K 1)) := rfl
theorem p92 (K : IVec S256x1024 32) : k0_pay92 K (least K) = number (least (rounds K 2)) := rfl
theorem p96 (K : IVec S256x1024 32) : k0_pay96 K (least K) = number (least (rounds K 3)) := rfl
theorem p101 (K : IVec S256x1024 32) : k0_pay101 K (least K) = number (least (rounds K 1)) := rfl
theorem p105 (K : IVec S256x1024 32) : k0_pay105 K (least K) = number (least (rounds K 2)) := rfl
theorem p109 (K : IVec S256x1024 32) : k0_pay109 K (least K) = number (least (rounds K 3)) := rfl
theorem p114 (K : IVec S256x1024 32) : k0_pay114 K (least K) = number (least (rounds K 1)) := rfl
theorem p118 (K : IVec S256x1024 32) : k0_pay118 K (least K) = number (least (rounds K 2)) := rfl
theorem p122 (K : IVec S256x1024 32) : k0_pay122 K (least K) = number (least (rounds K 3)) := rfl
theorem p89 (K : IVec S256x1024 32) : k0_pay89 (F := F) K (least K) = root (least (rounds K 1)) := rfl
theorem p93 (K : IVec S256x1024 32) : k0_pay93 (F := F) K (least K) = root (least (rounds K 2)) := rfl
theorem p102 (K : IVec S256x1024 32) : k0_pay102 (F := F) K (least K) = root (least (rounds K 1)) := rfl
theorem p106 (K : IVec S256x1024 32) : k0_pay106 (F := F) K (least K) = root (least (rounds K 2)) := rfl
theorem p115 (K : IVec S256x1024 32) : k0_pay115 (F := F) K (least K) = root (least (rounds K 1)) := rfl
theorem p119 (K : IVec S256x1024 32) : k0_pay119 (F := F) K (least K) = root (least (rounds K 2)) := rfl
theorem p123 (K : IVec S256x1024 32) : k0_pay123 (F := F) K (least K) = root (least (rounds K 3)) := rfl
theorem p98 (K : IVec S256x1024 32) : k0_pay98 (k0_pay97 (F := F) K (least K)) = root (least (rounds K 3)) := rfl
theorem p111 (K : IVec S256x1024 32) : k0_pay111 (k0_pay110 (F := F) K (least K)) = root (least (rounds K 3)) := rfl
theorem p94 (K : IVec S256x1024 32) : k0_pay94 K (least K) = rounds K 3 := rfl
theorem p107 (K : IVec S256x1024 32) : k0_pay107 K (least K) = rounds K 3 := rfl
theorem p120 (K : IVec S256x1024 32) : k0_pay120 K (least K) = rounds K 3 := rfl
theorem p95 (K : IVec S256x1024 32) : k0_pay95 K (least K) = least (rounds K 3) := rfl
theorem p108 (K : IVec S256x1024 32) : k0_pay108 K (least K) = least (rounds K 3) := rfl
theorem p124 (K : IVec S256x1024 32) : k0_pay124 K (least K) = taken (rounds K 3) := rfl
theorem p127 (K : IVec S256x1024 32) : k0_pay127 (F := F) K (taken K) = root (least (rounds K 1)) := rfl
theorem p130 (K : IVec S256x1024 32) : k0_pay130 (F := F) K (taken K) = root (least (rounds K 2)) := rfl
theorem p132 (K : IVec S256x1024 32) : k0_pay132 (F := F) K (taken K) = root (least (rounds K 3)) := rfl

variable (i : grid0.Coords) (x0 x1 x2 : Vec F S1x256x1 .f32) (x3 x4 x5 : Vec F S1x1x1024 .f32)

/-- The keys the body starts from. -/
abbrev keys : IVec S256x1024 32 := k0_pay134 i x0 x1 x2 x3 x4 x5

theorem s135 : k0_pay135 i x0 x1 x2 x3 x4 x5 = least (keys i x0 x1 x2 x3 x4 x5) := rfl
theorem s136 : k0_pay136 i x0 x1 x2 x3 x4 x5 = rounds (keys i x0 x1 x2 x3 x4 x5) 3 := by
  rw [k0_pay136, s135, p16]
theorem s137 : k0_pay137 i x0 x1 x2 x3 x4 x5 = least (rounds (keys i x0 x1 x2 x3 x4 x5) 3) := by
  rw [k0_pay137, s135, p17]
theorem s138 : k0_pay138 i x0 x1 x2 x3 x4 x5 = rounds (keys i x0 x1 x2 x3 x4 x5) 6 := by
  rw [k0_pay138, s136, s137, p29, rounds_rounds]
theorem s139 : k0_pay139 i x0 x1 x2 x3 x4 x5 = least (rounds (keys i x0 x1 x2 x3 x4 x5) 6) := by
  rw [k0_pay139, s136, s137, p30, rounds_rounds]
theorem s140 : k0_pay140 i x0 x1 x2 x3 x4 x5 = rounds (keys i x0 x1 x2 x3 x4 x5) 9 := by
  rw [k0_pay140, s138, s139, p41, rounds_rounds]
theorem s141 : k0_pay141 i x0 x1 x2 x3 x4 x5 = taken (rounds (keys i x0 x1 x2 x3 x4 x5) 9) := by
  rw [k0_pay141, s138, s139, p45, rounds_rounds]
theorem s142 : k0_pay142 i x0 x1 x2 x3 x4 x5 = rounds (keys i x0 x1 x2 x3 x4 x5) 13 := by
  rw [k0_pay142, s140, s141, p58, rounds_rounds]
theorem s143 : k0_pay143 i x0 x1 x2 x3 x4 x5 = rounds (keys i x0 x1 x2 x3 x4 x5) 16 := by
  rw [k0_pay143, s142, p70, rounds_rounds]
theorem s144 : k0_pay144 i x0 x1 x2 x3 x4 x5 = least (rounds (keys i x0 x1 x2 x3 x4 x5) 16) := by
  rw [k0_pay144, s142, p71, rounds_rounds]
theorem s145 : k0_pay145 i x0 x1 x2 x3 x4 x5 = rounds (keys i x0 x1 x2 x3 x4 x5) 19 := by
  rw [k0_pay145, s143, s144, p82, rounds_rounds]
theorem s146 : k0_pay146 i x0 x1 x2 x3 x4 x5 = least (rounds (keys i x0 x1 x2 x3 x4 x5) 19) := by
  rw [k0_pay146, s143, s144, p83, rounds_rounds]
theorem s147 : k0_pay147 i x0 x1 x2 x3 x4 x5 = rounds (keys i x0 x1 x2 x3 x4 x5) 22 := by
  rw [k0_pay147, s145, s146, p94, rounds_rounds]
theorem s148 : k0_pay148 i x0 x1 x2 x3 x4 x5 = least (rounds (keys i x0 x1 x2 x3 x4 x5) 22) := by
  rw [k0_pay148, s145, s146, p95, rounds_rounds]
theorem s149 : k0_pay149 i x0 x1 x2 x3 x4 x5 = rounds (keys i x0 x1 x2 x3 x4 x5) 25 := by
  rw [k0_pay149, s147, s148, p107, rounds_rounds]
theorem s150 : k0_pay150 i x0 x1 x2 x3 x4 x5 = least (rounds (keys i x0 x1 x2 x3 x4 x5) 25) := by
  rw [k0_pay150, s147, s148, p108, rounds_rounds]
theorem s151 : k0_pay151 i x0 x1 x2 x3 x4 x5 = rounds (keys i x0 x1 x2 x3 x4 x5) 28 := by
  rw [k0_pay151, s149, s150, p120, rounds_rounds]
theorem s152 : k0_pay152 i x0 x1 x2 x3 x4 x5 = taken (rounds (keys i x0 x1 x2 x3 x4 x5) 28) := by
  rw [k0_pay152, s149, s150, p124, rounds_rounds]

/-- The last rounds' numbers, joined to the others. -/
theorem p133 (c0 c1 c2 c3 c4 c5 c6 c7 c8 c9 c10 c11 c12 c13 c14 c15 c16 c17 c18 c19 c20 c21 c22 c23 c24 c25 c26 c27 c28 : IVec S256x1 32) (K : IVec S256x1024 32) :
    k0_pay133 c0 c1 c2 c3 c4 c5 c6 c7 c8 c9 c10 c11 c12 c13 c14 c15 c16 c17 c18 c19 c20 c21 c22 c23 c24 c25 c26 c27 K c28 (taken K) = concatenate S256x32 1 [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩, ⟨S256x1, c10⟩, ⟨S256x1, c11⟩, ⟨S256x1, c12⟩, ⟨S256x1, c13⟩, ⟨S256x1, c14⟩, ⟨S256x1, c15⟩, ⟨S256x1, c16⟩, ⟨S256x1, c17⟩, ⟨S256x1, c18⟩, ⟨S256x1, c19⟩, ⟨S256x1, c20⟩, ⟨S256x1, c21⟩, ⟨S256x1, c22⟩, ⟨S256x1, c23⟩, ⟨S256x1, c24⟩, ⟨S256x1, c25⟩, ⟨S256x1, c26⟩, ⟨S256x1, c27⟩, ⟨S256x1, c28⟩, ⟨S256x1, number (least (rounds K 1))⟩, ⟨S256x1, number (least (rounds K 2))⟩, ⟨S256x1, number (least (rounds K 3))⟩]
      concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1 := rfl

/-- Thirty-two columns side by side. -/
def columns {α : Type} (f : Fin 32 → (S256x1.Idx → α)) : S256x32.Idx → α :=
  concatenate S256x32 1 (List.ofFn fun n : Fin 32 => (⟨S256x1, f n⟩ : (s : Shape) × (s.Idx → α)))
    concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

/-- Equal pieces, equal columns. -/
theorem columns_of {α : Type} {xs : List ((s : Shape) × (s.Idx → α))} (f : Fin 32 → (S256x1.Idx → α))
    (e : xs = List.ofFn fun n : Fin 32 => (⟨S256x1, f n⟩ : (s : Shape) × (s.Idx → α))) (h : Shape.Concatenates (xs.map (·.1)) S256x32 1) :
    concatenate S256x32 1 xs h = columns f := by
  subst e; rfl

/-- The thirty-two of them listed. -/
theorem listed {α : Type} (f : ℕ → (S256x1.Idx → α)) :
    (List.ofFn fun n : Fin 32 => (⟨S256x1, f n.val⟩ : (s : Shape) × (s.Idx → α))) = [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩, ⟨S256x1, f 8⟩, ⟨S256x1, f 9⟩, ⟨S256x1, f 10⟩, ⟨S256x1, f 11⟩, ⟨S256x1, f 12⟩, ⟨S256x1, f 13⟩, ⟨S256x1, f 14⟩, ⟨S256x1, f 15⟩, ⟨S256x1, f 16⟩, ⟨S256x1, f 17⟩, ⟨S256x1, f 18⟩, ⟨S256x1, f 19⟩, ⟨S256x1, f 20⟩, ⟨S256x1, f 21⟩, ⟨S256x1, f 22⟩, ⟨S256x1, f 23⟩, ⟨S256x1, f 24⟩, ⟨S256x1, f 25⟩, ⟨S256x1, f 26⟩, ⟨S256x1, f 27⟩, ⟨S256x1, f 28⟩, ⟨S256x1, f 29⟩, ⟨S256x1, f 30⟩, ⟨S256x1, f 31⟩] := rfl

/-- What the body stores for the neighbours' numbers. -/
theorem numbers_stored : out0_6 i x0 x1 x2 x3 x4 x5 = View.canon [⟨r0_2, k0_pay1 (columns fun n => number (least (rounds (keys i x0 x1 x2 x3 x4 x5) n.val)))
    (Scalar.muli (Scalar.addi (BitVec.ofNat 32 (i 0).val) 0#32) 1024#32)⟩] := by
  have p5 : k0_pay5 (View.ld x0 r0_0) (View.ld x1 r0_0) (View.ld x2 r0_0) (View.ld x3 r0_1) (View.ld x4 r0_1) (View.ld x5 r0_1)
    = number (least (rounds (keys i x0 x1 x2 x3 x4 x5) 0)) := rfl
  unfold out0_6
  simp only [p5, s135, s136, s137, s138, s139, s140, s141, s142, s143, s144, s145, s146, s147, s148, s149, s150, s151, s152, p10, p14, p18, p23, p27, p31, p35, p39, p43, p11, p15, p24, p28, p32, p36, p40, p44, p20, p16, p17,
    p29, p30, p41, p45, p48, p52, p56, p49, p53, p57, p58, p60, p64, p68, p61, p65, p69, p70, p71, p72,
    p73, p76, p80, p84, p77, p81, p82, p83, p85, p88, p92, p96, p101, p105, p109, p114, p118, p122, p89,
    p93, p102, p106, p115, p119, p123, p98, p111, p94, p107, p120, p95, p108, p124, p127, p130, p132, rounds_rounds, Nat.reduceAdd]
  rw [p133]
  refine congrArg (fun v => View.canon ([⟨r0_2, k0_pay1 v (Scalar.muli (Scalar.addi (BitVec.ofNat 32 (i 0).val) 0#32) 1024#32)⟩] :
    List (View.Piece (Elt F) S1x256x32 .i32))) (columns_of _ ?_ _)
  rw [listed fun n => number (least (rounds (keys i x0 x1 x2 x3 x4 x5) n))]
  simp only [rounds_rounds, Nat.reduceAdd]

/-- What the body stores for the neighbours' distances. -/
theorem distances_stored : out0_7 i x0 x1 x2 x3 x4 x5 = View.canon [⟨r0_2, k0_pay2 (columns fun n => root (F := F) (least (rounds (keys i x0 x1 x2 x3 x4 x5) n.val)))⟩] := by
  have p7 : k0_pay7 (F := F) (least (keys i x0 x1 x2 x3 x4 x5)) k0_pay6 = root (least (rounds (keys i x0 x1 x2 x3 x4 x5) 0)) := rfl
  unfold out0_7
  refine congrArg (fun v => View.canon ([⟨r0_2, k0_pay2 v⟩] : List (View.Piece (Elt F) S1x256x32 .f32))) (columns_of _ ?_ _)
  rw [listed fun n => root (F := F) (least (rounds (keys i x0 x1 x2 x3 x4 x5) n))]
  simp only [p7, s135, s136, s137, s138, s139, s140, s141, s142, s143, s144, s145, s146, s147, s148, s149, s150, s151, s152, p10, p14, p18, p23, p27, p31, p35, p39, p43, p11, p15, p24, p28, p32, p36, p40, p44, p20, p16, p17,
    p29, p30, p41, p45, p48, p52, p56, p49, p53, p57, p58, p60, p64, p68, p61, p65, p69, p70, p71, p72,
    p73, p76, p80, p84, p77, p81, p82, p83, p85, p88, p92, p96, p101, p105, p109, p114, p118, p122, p89,
    p93, p102, p106, p115, p119, p123, p98, p111, p94, p107, p120, p95, p108, p124, p127, p130, p132, rounds_rounds, Nat.reduceAdd]

end Payloads

end Cert.Proof.Search

end

end
-- ==== Proof.Search.lean ====
module

public import proofs.«01_k».proof.Proof.SearchBlock
public import proofs.«01_k».proof.Proof.Gen.Search.Frame
public import proofs.«01_k».proof.Proof.Gen.SearchReference.Value
public import proofs.«01_k».proof.Defs
public import Idealize.ShloMosaic.Lib.Claim

@[expose] public section

/-!
# The neighbour search of one batch

The kernel's body, its two arrays and the reference's, read at an entry. For every row of the batch the order is that of
`order`: a stable sort of the row's squared distances without the low ten bits.
-/

noncomputable section

namespace Cert.Proof.Search

open Idealize.ShloMosaic Idealize.ShloMosaic.TcCoe Idealize.SL Idealize.SL.Sem ValueIdx

/-- The squared distance of two points, given by their coordinates. -/
def squared {F : FTy → Type} [FloatOps F] (p q : Fin 3 → F .f32) : F .f32 :=
  FloatOps.addf (FloatOps.addf (FloatOps.mulf (FloatOps.subf (p 0) (q 0)) (FloatOps.subf (p 0) (q 0)))
    (FloatOps.mulf (FloatOps.subf (p 1) (q 1)) (FloatOps.subf (p 1) (q 1))))
    (FloatOps.mulf (FloatOps.subf (p 2) (q 2)) (FloatOps.subf (p 2) (q 2)))

/-- The order of a row of words: by the words without their low ten bits, ties by position. -/
def order (w : Fin 1024 → BitVec 32) : Fin 1024 → Fin 1024 := sortedFrom (before fun j => key (w j) j)

/-- The distance whose square, cut, is the word. -/
def distance {F : FTy → Type} [FloatOps F] (w : BitVec 32) : F .f32 :=
  FloatOps.sqrt (FloatOps.addf (FloatOps.ofBits .f32 (cut w)) (Scalar.ofBits .f32 0x2B8CBCCC#32))

/-- The words of a row: the squared distances from point `n`, as words. -/
def words {F : FTy → Type} [BitOps F] (p : Fin 1024 → Fin 3 → F .f32) (n : Fin 1024) : Fin 1024 → BitVec 32 :=
  fun j => BitOps.toBits (squared (p n) (p j))

/-- A rank among the thirty-two as a rank in the whole row. -/
def rank (n : Fin 32) : Fin 1024 := ⟨n.val, by have := n.isLt; omega⟩

section Body
open Cert.Search Cert.Search.Gen

/-- Row `r` of an array of keys. -/
def row (K : IVec S256x1024 32) (r : Fin 256) : Fin 1024 → BitVec 32 := fun j => K (ix2 r j)

theorem least_fold (K : IVec S256x1024 32) (r : Fin 256) :
    least K (ix2 r 0) = (Finset.univ.filter fun i => reduces_S256x1024_S256.drop i = ix1 r).fold IntOp.minsi top K := by
  refine (shapeCast_apply _ _ _ (ix1 r) ?_).trans ?_
  · rw [Shape.rowMajor_val_one, Shape.rowMajor_val_two]
    show r.val = r.val * 1 + 0
    omega
  · exact multiReductionI_eq_fold _ _ _ _ _ _

theorem mem_row (r : Fin 256) (i : S256x1024.Idx) : reduces_S256x1024_S256.drop i = ix1 r ↔ ∃ j, i = ix2 r j := by
  have d : (reduces_S256x1024_S256.drop i 0).val = (i 0).val := reduces_S256x1024_S256.drop_apply_val_of_eq i 0 0
  constructor
  · intro h
    have e : r.val = (i 0).val := (congrArg Fin.val (congrFun h 0)).symm.trans d
    refine ⟨i 1, ?_⟩
    rw [eq_ix2 i]
    exact congrArg (ix2 · (i 1)) (Fin.ext e.symm)
  · rintro ⟨j, rfl⟩
    rw [eq_ix1 (reduces_S256x1024_S256.drop _)]
    exact congrArg ix1 (Fin.ext d)

theorem least_at (K : IVec S256x1024 32) (r : Fin 256) :
    (∀ j, (least K (ix2 r 0)).toInt ≤ (row K r j).toInt) ∧ (least K (ix2 r 0) = top ∨ ∃ j, least K (ix2 r 0) = row K r j) := by
  rw [least_fold]
  obtain ⟨h1, h2⟩ := fold_least K (Finset.univ.filter fun i => reduces_S256x1024_S256.drop i = ix1 r) top
  refine ⟨fun j => h1 _ (Finset.mem_filter.mpr ⟨Finset.mem_univ _, (mem_row r _).mpr ⟨j, rfl⟩⟩), h2.imp id ?_⟩
  rintro ⟨i, hi, e⟩
  obtain ⟨j, rfl⟩ := (mem_row r i).mp (Finset.mem_filter.mp hi).2
  exact ⟨j, e⟩

theorem select_eq (a b t x : BitVec 32) : Scalar.select (IntOp.cmpi .eq a b) t x = if a = b then t else x := by
  by_cases h : a = b
  · rw [if_pos h, show IntOp.cmpi .eq a b = 1#1 from congrArg BitVec.ofBool (beq_iff_eq.mpr h)]
    rfl
  · rw [if_neg h, show IntOp.cmpi .eq a b = 0#1 from congrArg BitVec.ofBool (beq_eq_false_iff_ne.mpr h)]
    rfl

theorem spread_at (M : IVec S256x1 32) (r : Fin 256) (j : Fin 1024) : broadcastTo S256x1024 M broadcasts_S256x1_S256x1024 (ix2 r j) = M (ix2 r 0) :=
  broadcastTo_apply _ _ _ (ix2 r 0) (fun | ⟨0, _⟩ => rfl | ⟨1, _⟩ => rfl)

theorem cmpi_at (b d : IVec S256x1024 32) (i : S256x1024.Idx) : cmpi .eq b d i = IntOp.cmpi .eq (b i) (d i) := by
  unfold cmpi
  with_reducible rfl

theorem taken_at (K : IVec S256x1024 32) (r : Fin 256) (j : Fin 1024) :
    taken K (ix2 r j) = IntOp.cmpi .eq (K (ix2 r j)) (least K (ix2 r 0)) := by
  unfold taken
  rw [cmpi_at, spread_at]

theorem choose_at (a : IVec S256x1024 1) (b d : IVec S256x1024 32) (i : S256x1024.Idx) :
    select a b d i = Scalar.select (a i) (b i) (d i) := by
  unfold select
  with_reducible rfl

theorem after_at (K : IVec S256x1024 32) (r : Fin 256) (j : Fin 1024) :
    row (after K) r j = if row K r j = least K (ix2 r 0) then top else row K r j := by
  unfold row after
  rw [choose_at, taken_at, select_eq]
  with_unfolding_all rfl

/-- The least key of round `n`, when the keys are made of a row of words. -/
theorem round_takes (K : IVec S256x1024 32) (r : Fin 256) (w : Fin 1024 → BitVec 32) (hK : ∀ j, K (ix2 r j) = key (w j) j) (n : Fin 1024) :
    least (rounds K n.val) (ix2 r 0) = key (w (order w n)) (order w n) :=
  rounds_take (key_injective w) (fun n => row (rounds K n) r) (fun n => least (rounds K n) (ix2 r 0)) (funext hK)
    (fun n => (least_at (rounds K n) r).1) (fun n => (least_at (rounds K n) r).2) (fun n => after_at (rounds K n) r) n.val n.isLt

variable {F : FTy → Type} [BitOps F]

theorem columns_at {α : Type} (f : Fin 32 → S256x1.Idx → α) (r : Fin 256) (n : Fin 32) : columns f (ix2 r n) = f n (ix2 r 0) :=
  concatenate_ofFn_unit_apply (t := S256x32) (s₁ := S256x1) 1 f _ rfl rfl (ix2 r n) n rfl (ix2 r 0) (fun
    | ⟨0, _⟩, _ => rfl
    | ⟨1, _⟩, h => absurd rfl h)

variable (i : grid0.Coords) (x0 x1 x2 : Vec F S1x256x1 .f32) (x3 x4 x5 : Vec F S1x1x1024 .f32)

theorem query_at (x : Vec F S1x256x1 .f32) (r : Fin 256) (j : Fin 1024) :
    broadcastTo S256x1024 (shapeCast S256x1 (View.ld x r0_0) shapeCasts_S1x256x1_S256x1) broadcasts_S256x1_S256x1024 (ix2 r j) = x (ix3 0 r 0) := by
  rw [show View.ld x r0_0 = x from View.ld_unit_zero (Val := Elt F) (e := .f32) (S := S1x256x1) (off := ![0, 0, 0]) (by decide) inb_S1x256x1_S1x256x1_0_0_0 x]
  exact (broadcastTo_apply _ _ _ (ix2 r 0) (fun | ⟨0, _⟩ => rfl | ⟨1, _⟩ => rfl)).trans (shapeCast_1ab_ab_apply _ _ _ _)

theorem candidate_at (x : Vec F S1x1x1024 .f32) (r : Fin 256) (j : Fin 1024) :
    broadcastTo S256x1024 (shapeCast S1x1024 (View.ld x r0_1) shapeCasts_S1x1x1024_S1x1024) broadcasts_S1x1024_S256x1024 (ix2 r j) = x (ix3 0 0 j) := by
  rw [show View.ld x r0_1 = x from View.ld_unit_zero (Val := Elt F) (e := .f32) (S := S1x1x1024) (off := ![0, 0, 0]) (by decide) inb_S1x1x1024_S1x1x1024_0_0_0 x]
  exact (broadcastTo_1b_ab_apply _ _ _ _).trans (shapeCast_1ab_ab_apply _ _ _ _)

/-- The keys the body starts from. -/
theorem keys_at (r : Fin 256) (j : Fin 1024) : keys i x0 x1 x2 x3 x4 x5 (ix2 r j)
    = key (BitOps.toBits (squared ![x0 (ix3 0 r 0), x1 (ix3 0 r 0), x2 (ix3 0 r 0)] ![x3 (ix3 0 0 j), x4 (ix3 0 0 j), x5 (ix3 0 0 j)])) j := by
  unfold keys k0_pay134 k0_pay3
  refine congrArg₂ (fun a b : BitVec 32 => (a &&& 4294966272#32) ||| b) (congrArg BitOps.toBits ?_) ?_
  · rw [← query_at x0 r j, ← query_at x1 r j, ← query_at x2 r j, ← candidate_at x3 r j, ← candidate_at x4 r j, ← candidate_at x5 r j]
    rfl
  · show BitVec.ofNat 32 (0 * 1024 + j.val) = _
    rw [Nat.zero_mul, Nat.zero_add]

/-- The block of numbers at an entry. -/
theorem numbers_block (r : Fin 256) (w : Fin 1024 → BitVec 32) (hK : ∀ j, keys i x0 x1 x2 x3 x4 x5 (ix2 r j) = key (w j) j) (n : Fin 32) :
    out0_6 i x0 x1 x2 x3 x4 x5 (ix3 0 r n) = BitVec.ofNat 32 (order w (rank n)).val := by
  rw [numbers_stored, View.canon_unit_zero (by decide)]
  unfold k0_pay1
  refine (shapeCast_ab_1ab_apply _ _ _ r n).trans ?_
  have hi : (i 0).val = 0 := by have : (i 0).val < 1 := (i 0).isLt; omega
  rw [hi]
  show columns _ (ix2 r n) + Scalar.muli (Scalar.addi (BitVec.ofNat 32 0) 0#32) 1024#32 = _
  rw [columns_at, show Scalar.muli (Scalar.addi (BitVec.ofNat 32 0) 0#32) 1024#32 = 0#32 by decide, BitVec.add_zero]
  show least _ (ix2 r 0) &&& 1023#32 = _
  rw [show n.val = (rank n).val from rfl, round_takes _ r w hK, key_low]

/-- The block of distances at an entry. -/
theorem distances_block (r : Fin 256) (w : Fin 1024 → BitVec 32) (hK : ∀ j, keys i x0 x1 x2 x3 x4 x5 (ix2 r j) = key (w j) j) (n : Fin 32) :
    out0_7 i x0 x1 x2 x3 x4 x5 (ix3 0 r n) = distance (w (order w (rank n))) := by
  rw [distances_stored, View.canon_unit_zero (by decide)]
  unfold k0_pay2
  refine (shapeCast_ab_1ab_apply _ _ _ r n).trans ?_
  rw [columns_at]
  show FloatOps.sqrt (FloatOps.addf (FloatOps.ofBits .f32 (least _ (ix2 r 0) &&& 4294966272#32)) _) = _
  rw [show n.val = (rank n).val from rfl, round_takes _ r w hK, key_high]
  rfl

variable (m : (ℓ : Loc nD τ sig) → Buf (Elt F) ℓ) (c : Dev nD)

/-- A point's coordinate. -/
def coordinate (n : Fin 1024) (k : Fin 3) : F .f32 := m ((c : Thread nD τ).loc main_arg0) (ix3 0 n k)

/-- One coordinate of every point, cut out of the argument. -/
theorem slice_at (o : Fin 3 → ℕ) (h : S1x1024x3.Slices o S1x1024x1) (k : Fin 3) (ho : o = ![0, 0, k.val]) (x : FVec F S1x1024x3 .f32) (n : Fin 1024) :
    shapeCast S1x1024 (extractStridedSlice S1x1024x1 o x h) shapeCasts_S1x1024x1_S1x1024 (ix2 0 n) = x (ix3 0 n k) := by
  subst ho
  refine (shapeCast_apply _ _ _ (ix3 0 n 0) (by rw [Shape.rowMajor_val_three, Shape.rowMajor_val_two]; show (0 * 1024 + n.val) * 1 + 0 = 0 * 1024 + n.val; omega)).trans ?_
  exact extractStridedSlice_apply _ _ _ _ _ (fun | ⟨0, _⟩ => rfl | ⟨1, _⟩ => (Nat.zero_add _).symm | ⟨2, _⟩ => rfl)

theorem queries_at (x : FVec F S1x1024 .f32) (n : Fin 1024) :
    broadcastInDim S1x1024x1 ![0, 1] bcast_S1x1024_S1x1024x1_0_1 x (ix3 0 n 0) = x (ix2 0 n) :=
  broadcastInDim_apply (s := S1x1024) _ _ _ _ (ix2 0 n) (fun | ⟨0, _⟩ => rfl | ⟨1, _⟩ => rfl)

theorem candidates_at (x : FVec F S1x1024 .f32) (n : Fin 1024) :
    broadcastInDim S1x1x1024 ![0, 2] bcast_S1x1024_S1x1x1024_0_2 x (ix3 0 0 n) = x (ix2 0 n) :=
  broadcastInDim_apply (s := S1x1024) _ _ _ _ (ix2 0 n) (fun | ⟨0, _⟩ => rfl | ⟨1, _⟩ => rfl)

theorem query0 (n : Fin 1024) : V m c main_v2 (ix3 0 n 0) = coordinate m c n 0 := by
  have h : V m c main_v2 = broadcastInDim S1x1024x1 ![0, 1] bcast_S1x1024_S1x1024x1_0_1 (shapeCast S1x1024
      (extractStridedSlice S1x1024x1 ![0, 0, 0] (m ((c : Thread nD τ).loc main_arg0)) slices_S1x1024x3_S1x1024x1_0_0_0) shapeCasts_S1x1024x1_S1x1024) := by
    entry_read
    rfl
  rw [h]
  exact (queries_at _ n).trans (slice_at _ _ 0 rfl _ n)

theorem query1 (n : Fin 1024) : V m c main_v5 (ix3 0 n 0) = coordinate m c n 1 := by
  have h : V m c main_v5 = broadcastInDim S1x1024x1 ![0, 1] bcast_S1x1024_S1x1024x1_0_1 (shapeCast S1x1024
      (extractStridedSlice S1x1024x1 ![0, 0, 1] (m ((c : Thread nD τ).loc main_arg0)) slices_S1x1024x3_S1x1024x1_0_0_1) shapeCasts_S1x1024x1_S1x1024) := by
    entry_read
    rfl
  rw [h]
  exact (queries_at _ n).trans (slice_at _ _ 1 rfl _ n)

theorem query2 (n : Fin 1024) : V m c main_v8 (ix3 0 n 0) = coordinate m c n 2 := by
  have h : V m c main_v8 = broadcastInDim S1x1024x1 ![0, 1] bcast_S1x1024_S1x1024x1_0_1 (shapeCast S1x1024
      (extractStridedSlice S1x1024x1 ![0, 0, 2] (m ((c : Thread nD τ).loc main_arg0)) slices_S1x1024x3_S1x1024x1_0_0_2) shapeCasts_S1x1024x1_S1x1024) := by
    entry_read
    rfl
  rw [h]
  exact (queries_at _ n).trans (slice_at _ _ 2 rfl _ n)

theorem candidate0 (n : Fin 1024) : V m c main_v11 (ix3 0 0 n) = coordinate m c n 0 := by
  have h : V m c main_v11 = broadcastInDim S1x1x1024 ![0, 2] bcast_S1x1024_S1x1x1024_0_2 (shapeCast S1x1024
      (extractStridedSlice S1x1024x1 ![0, 0, 0] (m ((c : Thread nD τ).loc main_arg0)) slices_S1x1024x3_S1x1024x1_0_0_0) shapeCasts_S1x1024x1_S1x1024) := by
    entry_read
    rfl
  rw [h]
  exact (candidates_at _ n).trans (slice_at _ _ 0 rfl _ n)

theorem candidate1 (n : Fin 1024) : V m c main_v14 (ix3 0 0 n) = coordinate m c n 1 := by
  have h : V m c main_v14 = broadcastInDim S1x1x1024 ![0, 2] bcast_S1x1024_S1x1x1024_0_2 (shapeCast S1x1024
      (extractStridedSlice S1x1024x1 ![0, 0, 1] (m ((c : Thread nD τ).loc main_arg0)) slices_S1x1024x3_S1x1024x1_0_0_1) shapeCasts_S1x1024x1_S1x1024) := by
    entry_read
    rfl
  rw [h]
  exact (candidates_at _ n).trans (slice_at _ _ 1 rfl _ n)

theorem candidate2 (n : Fin 1024) : V m c main_v17 (ix3 0 0 n) = coordinate m c n 2 := by
  have h : V m c main_v17 = broadcastInDim S1x1x1024 ![0, 2] bcast_S1x1024_S1x1x1024_0_2 (shapeCast S1x1024
      (extractStridedSlice S1x1024x1 ![0, 0, 2] (m ((c : Thread nD τ).loc main_arg0)) slices_S1x1024x3_S1x1024x1_0_0_2) shapeCasts_S1x1024x1_S1x1024) := by
    entry_read
    rfl
  rw [h]
  exact (candidates_at _ n).trans (slice_at _ _ 2 rfl _ n)

/-- Where the blocks lie: the queries' and the results' rows by the point, the candidates' at the beginning. -/
theorem block_starts : ∀ t : Fin cfg0.N,
    ((win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0))
    ∧ ((win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0))
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0) :=
  (by decide +kernel : ∀ t : Fin grid0.N, _)

theorem points_four : grid0.N = 4 := by decide +kernel

/-- The row of the batch that is row `r` of point `t`. -/
def point (t : Fin cfg0.N) (r : Fin 256) : Fin 1024 :=
  ⟨t.val * 256 + r.val, by have h : t.val < 4 := points_four ▸ t.isLt; have := r.isLt; omega⟩

theorem query0_block (t : Fin cfg0.N) (r : Fin 256) : iblk m c 0 t (ix3 0 r 0) = coordinate m c (point t r) 0 := by
  obtain ⟨⟨⟨e0, e1, e2⟩, -, -⟩, -⟩ := block_starts t
  show V m c main_v2 (((cfg0.win 0).blk t).view.emb (ix3 0 r 0)) = _
  refine Eq.trans (congrArg _ ?_) (query0 m c _)
  funext x; apply Fin.ext
  match x with
  | ⟨0, _⟩ => show win0_0.index t (0 : Fin 3) * 1 + 1 * 0 = 0; omega
  | ⟨1, _⟩ => show win0_0.index t (1 : Fin 3) * 256 + 1 * r.val = t.val * 256 + r.val; omega
  | ⟨2, _⟩ => show win0_0.index t (2 : Fin 3) * 1 + 1 * 0 = 0; omega

theorem query1_block (t : Fin cfg0.N) (r : Fin 256) : iblk m c 1 t (ix3 0 r 0) = coordinate m c (point t r) 1 := by
  obtain ⟨⟨-, ⟨e0, e1, e2⟩, -⟩, -⟩ := block_starts t
  show V m c main_v5 (((cfg0.win 1).blk t).view.emb (ix3 0 r 0)) = _
  refine Eq.trans (congrArg _ ?_) (query1 m c _)
  funext x; apply Fin.ext
  match x with
  | ⟨0, _⟩ => show win0_1.index t (0 : Fin 3) * 1 + 1 * 0 = 0; omega
  | ⟨1, _⟩ => show win0_1.index t (1 : Fin 3) * 256 + 1 * r.val = t.val * 256 + r.val; omega
  | ⟨2, _⟩ => show win0_1.index t (2 : Fin 3) * 1 + 1 * 0 = 0; omega

theorem query2_block (t : Fin cfg0.N) (r : Fin 256) : iblk m c 2 t (ix3 0 r 0) = coordinate m c (point t r) 2 := by
  obtain ⟨⟨-, -, ⟨e0, e1, e2⟩⟩, -⟩ := block_starts t
  show V m c main_v8 (((cfg0.win 2).blk t).view.emb (ix3 0 r 0)) = _
  refine Eq.trans (congrArg _ ?_) (query2 m c _)
  funext x; apply Fin.ext
  match x with
  | ⟨0, _⟩ => show win0_2.index t (0 : Fin 3) * 1 + 1 * 0 = 0; omega
  | ⟨1, _⟩ => show win0_2.index t (1 : Fin 3) * 256 + 1 * r.val = t.val * 256 + r.val; omega
  | ⟨2, _⟩ => show win0_2.index t (2 : Fin 3) * 1 + 1 * 0 = 0; omega

theorem candidate0_block (t : Fin cfg0.N) (j : Fin 1024) : iblk m c 3 t (ix3 0 0 j) = coordinate m c j 0 := by
  obtain ⟨-, ⟨⟨e0, e1, e2⟩, -, -⟩, -⟩ := block_starts t
  show V m c main_v11 (((cfg0.win 3).blk t).view.emb (ix3 0 0 j)) = _
  refine Eq.trans (congrArg _ ?_) (candidate0 m c _)
  funext x; apply Fin.ext
  match x with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 1024 + 1 * j.val = j.val; omega

theorem candidate1_block (t : Fin cfg0.N) (j : Fin 1024) : iblk m c 4 t (ix3 0 0 j) = coordinate m c j 1 := by
  obtain ⟨-, ⟨-, ⟨e0, e1, e2⟩, -⟩, -⟩ := block_starts t
  show V m c main_v14 (((cfg0.win 4).blk t).view.emb (ix3 0 0 j)) = _
  refine Eq.trans (congrArg _ ?_) (candidate1 m c _)
  funext x; apply Fin.ext
  match x with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 1024 + 1 * j.val = j.val; omega

theorem candidate2_block (t : Fin cfg0.N) (j : Fin 1024) : iblk m c 5 t (ix3 0 0 j) = coordinate m c j 2 := by
  obtain ⟨-, ⟨-, -, ⟨e0, e1, e2⟩⟩, -⟩ := block_starts t
  show V m c main_v17 (((cfg0.win 5).blk t).view.emb (ix3 0 0 j)) = _
  refine Eq.trans (congrArg _ ?_) (candidate2 m c _)
  funext x; apply Fin.ext
  match x with
  | ⟨0, _⟩ => show win0_5.index t (0 : Fin 3) * 1 + 1 * 0 = 0; omega
  | ⟨1, _⟩ => show win0_5.index t (1 : Fin 3) * 1 + 1 * 0 = 0; omega
  | ⟨2, _⟩ => show win0_5.index t (2 : Fin 3) * 1024 + 1 * j.val = j.val; omega

/-- A point's keys are made of its rows' words. -/
theorem keys_words (t : Fin cfg0.N) (r : Fin 256) (j : Fin 1024) :
    keys (grid0.coords t) (iblk m c 0 t) (iblk m c 1 t) (iblk m c 2 t) (iblk m c 3 t) (iblk m c 4 t) (iblk m c 5 t) (ix2 r j) = key (words (coordinate m c) (point t r) j) j := by
  rw [keys_at]
  refine congrArg (fun w : F .f32 => key (BitOps.toBits w) j) (congrArg₂ squared ?_ ?_)
  · funext k
    match k with
    | 0 => exact query0_block m c t r
    | 1 => exact query1_block m c t r
    | 2 => exact query2_block m c t r
  · funext k
    match k with
    | 0 => exact candidate0_block m c t j
    | 1 => exact candidate1_block m c t j
    | 2 => exact candidate2_block m c t j

theorem point_surjective (n : Fin 1024) : ∃ t r, n = point t r :=
  ⟨⟨n.val / 256, by have := n.isLt; show _ < grid0.N; rw [points_four]; omega⟩, ⟨n.val % 256, Nat.mod_lt _ (by omega)⟩,
    Fin.ext (by show n.val = n.val / 256 * 256 + n.val % 256; omega)⟩

/-- The kernel's numbers at an entry. -/
theorem numbers_array (n : Fin 1024) (k : Fin 32) : (dats m 0 c).arrAt 6 cfg0.N (ix3 0 n k) = BitVec.ofNat 32 (order (words (coordinate m c) n) (rank k)).val := by
  obtain ⟨t, r, rfl⟩ := point_surjective n
  have b := congrFun (Cert.Search.Value.blocks6 m c t (flush0_6 t)) (ix3 0 r k)
  rw [Cert.Search.Value.flushed6] at b
  have b' : (dats m 0 c).arrAt 6 cfg0.N (((cfg0.win 6).blk t).view.emb (ix3 0 r k))
      = out0_6 (grid0.coords t) (iblk m c 0 t) (iblk m c 1 t) (iblk m c 2 t) (iblk m c 3 t) (iblk m c 4 t) (iblk m c 5 t) (ix3 0 r k) := b
  obtain ⟨-, -, ⟨e0, e1, e2⟩, -⟩ := block_starts t
  have he : ((cfg0.win 6).blk t).view.emb (ix3 0 r k) = ix3 0 (point t r) k := by
    funext x; apply Fin.ext
    match x with
    | ⟨0, _⟩ => show win0_6.index t (0 : Fin 3) * 1 + 1 * 0 = 0; omega
    | ⟨1, _⟩ => show win0_6.index t (1 : Fin 3) * 256 + 1 * r.val = t.val * 256 + r.val; omega
    | ⟨2, _⟩ => show win0_6.index t (2 : Fin 3) * 32 + 1 * k.val = k.val; omega
  rw [he] at b'
  exact b'.trans (numbers_block _ _ _ _ _ _ _ r _ (keys_words m c t r) k)

/-- The kernel's distances at an entry. -/
theorem distances_array (n : Fin 1024) (k : Fin 32) : (dats m 0 c).arrAt 7 cfg0.N (ix3 0 n k) = distance (words (coordinate m c) n (order (words (coordinate m c) n) (rank k))) := by
  obtain ⟨t, r, rfl⟩ := point_surjective n
  have b := congrFun (Cert.Search.Value.blocks7 m c t (flush0_7 t)) (ix3 0 r k)
  rw [Cert.Search.Value.flushed7] at b
  have b' : (dats m 0 c).arrAt 7 cfg0.N (((cfg0.win 7).blk t).view.emb (ix3 0 r k))
      = out0_7 (grid0.coords t) (iblk m c 0 t) (iblk m c 1 t) (iblk m c 2 t) (iblk m c 3 t) (iblk m c 4 t) (iblk m c 5 t) (ix3 0 r k) := b
  obtain ⟨-, -, -, ⟨e0, e1, e2⟩⟩ := block_starts t
  have he : ((cfg0.win 7).blk t).view.emb (ix3 0 r k) = ix3 0 (point t r) k := by
    funext x; apply Fin.ext
    match x with
    | ⟨0, _⟩ => show win0_7.index t (0 : Fin 3) * 1 + 1 * 0 = 0; omega
    | ⟨1, _⟩ => show win0_7.index t (1 : Fin 3) * 256 + 1 * r.val = t.val * 256 + r.val; omega
    | ⟨2, _⟩ => show win0_7.index t (2 : Fin 3) * 32 + 1 * k.val = k.val; omega
  rw [he] at b'
  exact b'.trans (distances_block _ _ _ _ _ _ _ r _ (keys_words m c t r) k)

end Body

section Reference
open Cert.SearchReference Cert.SearchReference.Gen
variable {F : FTy → Type} [BitOps F]

/-- The differences of the coordinates of any two points. -/
def differences (x : FVec F S1x1024x3 .f32) : FVec F S1x1024x1024x3 .f32 :=
  subf (broadcastInDim S1x1024x1024x3 ![0, 1, 2, 3] bcast_S1x1024x1x3_S1x1024x1024x3_0_1_2_3 (broadcastInDim S1x1024x1x3 ![0, 1, 3] bcast_S1x1024x3_S1x1024x1x3_0_1_3 x))
    (broadcastInDim S1x1024x1024x3 ![0, 1, 2, 3] bcast_S1x1x1024x3_S1x1024x1024x3_0_1_2_3 (broadcastInDim S1x1x1024x3 ![0, 2, 3] bcast_S1x1024x3_S1x1x1024x3_0_2_3 x))

theorem differences_at (x : FVec F S1x1024x3 .f32) (n j : Fin 1024) (k : Fin 3) :
    differences x (ix4 0 n j k) = FloatOps.subf (x (ix3 0 n k)) (x (ix3 0 j k)) := by
  refine congrArg₂ (FloatOps.subf (F := F) (φ := .f32)) ?_ ?_
  · exact (broadcastInDim_apply (s := S1x1024x1x3) _ _ _ _ (ix4 0 n 0 k) (fun | ⟨0, _⟩ => rfl | ⟨1, _⟩ => rfl | ⟨2, _⟩ => rfl | ⟨3, _⟩ => rfl)).trans
      (broadcastInDim_apply (s := S1x1024x3) _ _ _ _ (ix3 0 n k) (fun | ⟨0, _⟩ => rfl | ⟨1, _⟩ => rfl | ⟨2, _⟩ => rfl))
  · exact (broadcastInDim_apply (s := S1x1x1024x3) _ _ _ _ (ix4 0 0 j k) (fun | ⟨0, _⟩ => rfl | ⟨1, _⟩ => rfl | ⟨2, _⟩ => rfl | ⟨3, _⟩ => rfl)).trans
      (broadcastInDim_apply (s := S1x1024x3) _ _ _ _ (ix3 0 j k) (fun | ⟨0, _⟩ => rfl | ⟨1, _⟩ => rfl | ⟨2, _⟩ => rfl))

/-- One coordinate of the differences. -/
theorem component_at (o : Fin 4 → ℕ) (h : S1x1024x1024x3.Slices o S1x1024x1024x1) (k : Fin 3) (ho : o = ![0, 0, 0, k.val])
    (x : FVec F S1x1024x1024x3 .f32) (n j : Fin 1024) :
    shapeCast S1x1024x1024 (extractStridedSlice S1x1024x1024x1 o x h) shapeCasts_S1x1024x1024x1_S1x1024x1024 (ix3 0 n j) = x (ix4 0 n j k) := by
  subst ho
  refine (shapeCast_apply _ _ _ (ix4 0 n j 0) (by
    rw [Shape.rowMajor_val_four, Shape.rowMajor_val_three]
    show ((0 * 1024 + n.val) * 1024 + j.val) * 1 + 0 = (0 * 1024 + n.val) * 1024 + j.val
    omega)).trans ?_
  exact extractStridedSlice_apply _ _ _ _ _ (fun | ⟨0, _⟩ => rfl | ⟨1, _⟩ => (Nat.zero_add _).symm | ⟨2, _⟩ => (Nat.zero_add _).symm | ⟨3, _⟩ => rfl)

/-- What the reference ranks: the squared distances' words without the low ten bits, complemented. -/
def ranked (d : FVec F S1x1024x1024x3 .f32) : IVec S1x1024x1024 32 :=
  let v6 : FVec F S1x1024x1024 .f32 := shapeCast S1x1024x1024 (extractStridedSlice S1x1024x1024x1 ![0, 0, 0, 0] d slices_S1x1024x1024x3_S1x1024x1024x1_0_0_0_0) shapeCasts_S1x1024x1024x1_S1x1024x1024
  let v8 : FVec F S1x1024x1024 .f32 := shapeCast S1x1024x1024 (extractStridedSlice S1x1024x1024x1 ![0, 0, 0, 1] d slices_S1x1024x1024x3_S1x1024x1024x1_0_0_0_1) shapeCasts_S1x1024x1024x1_S1x1024x1024
  let v10 : FVec F S1x1024x1024 .f32 := shapeCast S1x1024x1024 (extractStridedSlice S1x1024x1024x1 ![0, 0, 0, 2] d slices_S1x1024x1024x3_S1x1024x1024x1_0_0_0_2) shapeCasts_S1x1024x1024x1_S1x1024x1024
  noti (andi (bitcastToInt (addf (addf (mulf v6 v6) (mulf v8 v8)) (mulf v10 v10)))
    (broadcastInDim S1x1024x1024 ![] bcast_S_S1x1024x1024 (constantI S_ 32 4294966272#32)))

theorem ranked_at (x : FVec F S1x1024x3 .f32) (n j : Fin 1024) :
    ranked (differences x) (ix3 0 n j) = ~~~ cut (words (fun i k => x (ix3 0 i k)) n j) := by
  refine congrArg₂ (fun a b : BitVec 32 => ~~~ (a &&& b)) (congrArg BitOps.toBits ?_) ?_
  · rw [show squared (F := F) (fun k => x (ix3 0 n k)) (fun k => x (ix3 0 j k)) = FloatOps.addf (FloatOps.addf
      (FloatOps.mulf (differences x (ix4 0 n j 0)) (differences x (ix4 0 n j 0)))
      (FloatOps.mulf (differences x (ix4 0 n j 1)) (differences x (ix4 0 n j 1))))
      (FloatOps.mulf (differences x (ix4 0 n j 2)) (differences x (ix4 0 n j 2))) by
        rw [differences_at, differences_at, differences_at]; rfl]
    rw [← component_at ![0, 0, 0, 0] slices_S1x1024x1024x3_S1x1024x1024x1_0_0_0_0 0 rfl (differences x),
      ← component_at ![0, 0, 0, 1] slices_S1x1024x1024x3_S1x1024x1024x1_0_0_0_1 1 rfl (differences x),
      ← component_at ![0, 0, 0, 2] slices_S1x1024x1024x3_S1x1024x1024x1_0_0_0_2 2 rfl (differences x)]
    rfl
  · rfl

theorem along_last (n j k : Fin 1024) : (ix3 0 n j : S1x1024x1024.Idx).along (2 : Fin 3) k = ix3 0 n k := by
  funext a
  match a with
  | ⟨0, _⟩ => exact Function.update_of_ne (Fin.ne_of_val_ne (show 0 ≠ 2 by decide)) _ _
  | ⟨1, _⟩ => exact Function.update_of_ne (Fin.ne_of_val_ne (show 1 ≠ 2 by decide)) _ _
  | ⟨2, _⟩ => exact Function.update_self _ _ _

/-- The greatest thirty-two of every row, when a row holds cut words complemented: the row's order from its beginning. -/
theorem top_at (X : IVec S1x1024x1024 32) (n : Fin 1024) (w : Fin 1024 → BitVec 32) (hX : ∀ j, X (ix3 0 n j) = ~~~ cut (w j)) (k : Fin 32) :
    (Host.topK S1x1024x32 2 (IntOp.cmpi .sgt) X sliceFits_S1x1024x1024_S1x1024x32).1 (ix3 0 n k) = ~~~ cut (w (order w (rank k)))
    ∧ (Host.topK S1x1024x32 2 (IntOp.cmpi .sgt) X sliceFits_S1x1024x1024_S1x1024x32).2 (ix3 0 n k) = BitVec.ofNat 32 (order w (rank k)).val := by
  have hπ : sortedFrom (fun a b : Fin 1024 => IntOp.cmpi .sgt (X ((ix3 0 n (rank k) : S1x1024x1024.Idx).along (2 : Fin 3) a))
      (X ((ix3 0 n (rank k) : S1x1024x1024.Idx).along (2 : Fin 3) b)) == 1#1) = order w := by
    simp only [along_last, hX]
    exact sortedFrom_complements w
  have cutAt : ∀ {α : Type} (y : S1x1024x1024.Idx → α),
      extractStridedSlice S1x1024x32 (fun _ => 0) y sliceFits_S1x1024x1024_S1x1024x32 (ix3 0 n k) = y (ix3 0 n (rank k)) := fun y =>
    extractStridedSlice_apply _ _ _ _ _ (fun | ⟨0, _⟩ => rfl | ⟨1, _⟩ => (Nat.zero_add _).symm | ⟨2, _⟩ => (Nat.zero_add _).symm)
  unfold Host.topK Host.sort2
  simp only [dif_pos (show 2 < S1x1024x1024.rank by decide)]
  constructor
  · refine (cutAt _).trans ?_
    exact (congrArg (fun f : Fin 1024 → Fin 1024 => X ((ix3 0 n (rank k) : S1x1024x1024.Idx).along (2 : Fin 3) (f (rank k)))) hπ).trans
      (by rw [along_last, hX])
  · refine (cutAt _).trans ?_
    exact (congrArg (fun f : Fin 1024 → Fin 1024 =>
      BitVec.ofNat 32 ((ix3 0 n (rank k) : S1x1024x1024.Idx).along (2 : Fin 3) (f (rank k)) (2 : Fin 3)).val) hπ).trans
      (by rw [along_last])

variable (m : (ℓ : Loc nD τ sig) → Buf (Elt F) ℓ) (c : Dev nD)

/-- A point's coordinate. -/
def place (n : Fin 1024) (k : Fin 3) : F .f32 := m ((c : Thread nD τ).loc main_arg0) (ix3 0 n k)

theorem indices_eq : V m c main_indices
    = (Host.topK S1x1024x32 2 (IntOp.cmpi .sgt) (ranked (differences (m ((c : Thread nD τ).loc main_arg0)))) sliceFits_S1x1024x1024_S1x1024x32).2 := by
  entry_read
  rfl

theorem kept_eq : V m c main_v21 = bitcastToFloat .f32 (noti
    (Host.topK S1x1024x32 2 (IntOp.cmpi .sgt) (ranked (differences (m ((c : Thread nD τ).loc main_arg0)))) sliceFits_S1x1024x1024_S1x1024x32).1) := by
  entry_read
  rfl

/-- The reference's numbers at an entry. -/
theorem indices_at (n : Fin 1024) (k : Fin 32) :
    V m c main_indices (ix3 0 n k) = BitVec.ofNat 32 (order (words (place m c) n) (rank k)).val := by
  rw [indices_eq]
  exact (top_at _ n _ (ranked_at _ n) k).2

theorem kept_at (n : Fin 1024) (k : Fin 32) :
    V m c main_v21 (ix3 0 n k) = FloatOps.ofBits .f32 (cut (words (place m c) n (order (words (place m c) n) (rank k)))) := by
  rw [kept_eq]
  refine congrArg (FloatOps.ofBits .f32) ?_
  show ~~~ (Host.topK S1x1024x32 2 (IntOp.cmpi .sgt) (ranked (differences (m ((c : Thread nD τ).loc main_arg0)))) sliceFits_S1x1024x1024_S1x1024x32).1 (ix3 0 n k) = _
  rw [(top_at _ n _ (ranked_at _ n) k).1, BitVec.not_not]
  rfl

/-- The block of the call that takes the roots, at an entry. -/
theorem root_block (x : FVec F S1x1024x32 .f32) (y : S1x1024x32.Idx) :
    out0_1 (F := F) x y = FloatOps.sqrt (FloatOps.addf (x y) (Scalar.ofBits .f32 0x2B8CBCCC#32)) := by
  unfold out0_1
  have e : View.ld (Val := Elt F) (e' := .f32) x r0_0 = x :=
    View.ld_unit_zero (Val := Elt F) (e := .f32) (S := S1x1024x32) (off := ![0, 0, 0]) (by decide) inb_S1x1024x32_S1x1024x32_0_0_0 x
  rw [View.canon_unit_zero (by decide)]
  refine (congrArg (fun v => k0_pay1 (F := F) v y) e).trans ?_
  unfold k0_pay1
  rw [shapeCast_self]
  rfl

/-- Its window is the whole array. -/
theorem whole_in (t : Fin cfg0.N) (y : S1x1024x32.Idx) : ((cfg0.win 0).blk t).view.emb y = y := by
  funext x; apply Fin.ext
  match x with
  | ⟨0, _⟩ => show 0 * 1 + 1 * (y 0).val = (y 0).val; omega
  | ⟨1, _⟩ => show 0 * 1024 + 1 * (y 1).val = (y 1).val; omega
  | ⟨2, _⟩ => show 0 * 32 + 1 * (y 2).val = (y 2).val; omega

theorem whole_out (t : Fin cfg0.N) (y : S1x1024x32.Idx) : ((cfg0.win 1).blk t).view.emb y = y := whole_in t y

/-- The reference's distances at an entry. -/
theorem roots_at (n : Fin 1024) (k : Fin 32) : (dats m 0 c).arrAt 1 cfg0.N (ix3 0 n k)
    = distance (words (place m c) n (order (words (place m c) n) (rank k))) := by
  obtain ⟨t⟩ : Nonempty (Fin cfg0.N) := ⟨⟨0, (by decide +kernel : 0 < grid0.N)⟩⟩
  have b := congrFun (Cert.SearchReference.Value.blocks1 m c t (flush0_1 t)) (ix3 0 n k)
  rw [Cert.SearchReference.Value.flushed1] at b
  have b' : (dats m 0 c).arrAt 1 cfg0.N (((cfg0.win 1).blk t).view.emb (ix3 0 n k)) = out0_1 (iblk m c 0 t) (ix3 0 n k) := b
  have e : iblk m c 0 t (ix3 0 n k) = V m c main_v21 (ix3 0 n k) := congrArg (V m c main_v21) (whole_in t _)
  rw [whole_out, root_block, e, kept_at] at b'
  exact b'

variable (ρ : Dev nD → PrngReg)

/-- The reference's run, its results named. -/
theorem run_reference : θ_run defs (onTc (τ := τ) (main (F := F))) ⟨m, fun _ => 0, ρ⟩ fun r => ∀ c : Dev nD,
      r.2.mem ((c : Thread nD τ).loc main_indices) = V m c main_indices
      ∧ r.2.mem ((c : Thread nD τ).loc main_v22) = (dats m 0 c).arrAt 1 cfg0.N
      ∧ r.2.mem ((c : Thread nD τ).loc main_arg0) = m ((c : Thread nD τ).loc main_arg0) :=
  (θ_run defs _ _).mono (fun r h c => ⟨(h c).2 main_indices (Pipeline.mem_restRefs_of main_indices (by decide) (by decide)),
    Cert.SearchReference.Value.post1 m r h c, Cert.SearchReference.Value.kept_main_arg0 m r h c⟩) (run_main m ρ)

end Reference

/-! ## The claims -/

/-- Every run of the search ends with the argument as it was and no semaphore raised. -/
theorem frame_kernel : Cert.quiescent_Search (hSearch := Cert.Search.Gen.facts) := fun m ρ _ => Cert.Search.Gen.frame m ρ
/-- The same of the reference. -/
theorem frame_reference : Cert.quiescent_SearchReference (hSearchReference := Cert.SearchReference.Gen.facts) :=
  fun m ρ _ => Cert.SearchReference.Gen.frame m ρ

theorem entry_coordinates (i : (⟨3, ![1, 1024, 32]⟩ : Shape).Idx) : ∃ (n : Fin 1024) (k : Fin 32), i = ix3 (0 : Fin 1) n k := by
  have h : i 0 = (0 : Fin 1) := Subsingleton.elim (α := Fin 1) _ _
  exact ⟨i 1, i 2, (eq_ix3 (n0 := 1) (n1 := 1024) (n2 := 32) i).trans (congrArg (ix3 · (i 1) (i 2)) h)⟩

/-- The kernel's numbers and distances and the reference's are the same arrays, bit for bit. -/
theorem bitexact : Cert.bitexact_Search_SearchReference (hSearch := Cert.Search.Gen.facts)
    (hSearchReference := Cert.SearchReference.Gen.facts) := by
  intro m ρ m' ρ' _ hm
  have hp : ∀ c, place m' c = coordinate m c := fun c => funext fun n => funext fun k => congrFun (hm c) (ix3 0 n k)
  refine ⟨fun c => (Cert.Search.Gen.dats m 0 c).arrAt 6 Cert.Search.cfg0.N, fun c => (Cert.Search.Gen.dats m 0 c).arrAt 7 Cert.Search.cfg0.N,
    Cert.Search.Value.run_blocks (F := Bits) m ρ,
    (θ_run Cert.SearchReference.defs _ _).mono (fun r hr c => ⟨(hr c).1.trans ?_, (hr c).2.1.trans ?_, (hr c).2.2⟩)
      (run_reference (F := Bits) m' ρ')⟩
  · refine funext fun i => ?_
    obtain ⟨n, k, rfl⟩ := entry_coordinates i
    rw [indices_at, hp]
    exact (numbers_array m c n k).symm
  · refine funext fun i => ?_
    obtain ⟨n, k, rfl⟩ := entry_coordinates i
    rw [roots_at, hp]
    exact (distances_array m c n k).symm

end Cert.Proof.Search

end
-- ==== Proof.lean ====
/-
  The certificate: the gather's frames, and its result against the reference's, entry by entry; with the claims of
  the attention, the projection, the queries, keys and values, and the neighbour search, the whole.
-/
module

public import proofs.«01_k».proof.Defs
public import proofs.«01_k».proof.Proof.Value
public import proofs.«01_k».proof.Proof.Gen.Kernel
public import proofs.«01_k».proof.Proof.Gen.Kernel.Skeleton
public import proofs.«01_k».proof.Proof.Gen.ReferenceIdeal.Run
public import proofs.«01_k».proof.Proof.AttnClaim
public import proofs.«01_k».proof.Proof.Proj
public import proofs.«01_k».proof.Proof.Qkv
public import proofs.«01_k».proof.Proof.Search
public import Idealize.ShloMosaic.Lib.Quiescent
public import Idealize.ShloMosaic.Lib.Routing.Ops

@[expose] public section

noncomputable section

namespace Cert.Proof

open Idealize.ShloMosaic hiding ix0 ix1 ix2 ix3 ix4 ix5 eq_ix1 eq_ix2 eq_ix3 eq_ix4 eq_ix5
open Idealize.ShloMosaic.ValueIdx Idealize.SL.Sem

/-! ## The kernel's run -/

/-- The gather's run at any float values: the arguments unchanged, the result at the closed form, every semaphore at zero. -/
theorem run_gather {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ (d : Dev Cert.KernelIdeal.nD) i, (Gather.ind m d i).toNat < 2048) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_v11) = Gather.V3 m c (Proc.devRef .tc Cert.KernelIdeal.main_v11)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run _ _ _).mono (fun r hr => ⟨fun c => ⟨hr.1 c _ (by simp [Gather.SF]),
      (hr.1 c _ (by simp [Gather.SF])).trans (Gather.V3_arg0 m c), (hr.1 c _ (by simp [Gather.SF])).trans (Gather.V3_arg1 m c)⟩, hr.2⟩)
    (Gather.run_main m ρ (Gather.preOK m h))

/-- The kernel as it is written: it runs to completion, leaves its arguments, and ends with every semaphore at zero. -/
theorem frame_kernel : Cert.quiescent_Kernel (hKernel := Cert.Kernel.Gen.facts) (hPre_in_rows := Cert.Pre_in_rows.Gen.facts) :=
  fun m ρ hpre => (θ_run Cert.KernelIdeal.defs _ _).mono (fun _ h => ⟨fun c => (h.1 c).2, h.2⟩)
    (run_gather (F := Bits) m ρ fun d i => Gather.in_rows_at (F := Bits) _ _ (hpre d) i)

/-- The same of its idealization. -/
theorem frame_ideal : Cert.quiescent_KernelIdeal (hKernelIdeal := Cert.KernelIdeal.Gen.facts) (hPre_in_rows := Cert.Pre_in_rows.Gen.facts) :=
  fun m ρ hpre => (θ_run Cert.KernelIdeal.defs _ _).mono (fun _ h => ⟨fun c => (h.1 c).2, h.2⟩)
    (run_gather (F := Ideal) m ρ fun d i => Gather.in_rows_at (F := Ideal) _ _ (hpre d) i)

/-! ## The reference -/

theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

theorem frame_reference_pre :
    Cert.quiescent_ReferenceIdeal_pre_in_rows (hReferenceIdeal := Cert.ReferenceIdeal.Gen.facts) (hPre_in_rows := Cert.Pre_in_rows.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

open Cert.ReferenceIdeal Cert.ReferenceIdeal.Gen in
/-- The reference's result at an entry, row indices in range: entry `j` of the row that the index at `i` names. -/
theorem reference_at (t : S2048x512.Idx → BitVec 32) (x : S32768.Idx → BitVec 32) (h : ∀ i, (x i).toNat < 2048) (i : Fin 32768) (j : Fin 512) :
    Host.gather gather_S2048x512_S32768x1_S32768x512_1_0_n_n_0_1_1512 t
      (broadcastInDim S32768x1 ![0] bcast_S32768_S32768x1_0
        (select (cmpi .slt x (broadcastInDim S32768 ![] bcast_S_S32768 (constantI S_ 32 0#32)))
          (addi x (broadcastInDim S32768 ![] bcast_S_S32768 (constantI S_ 32 2048#32))) x)) (ix2 i j)
      = t (ix2 (⟨(x (ix1 i)).toNat, h _⟩ : Fin 2048) j) := by
  refine Routing.gather_row (nb := 2048) (B := 512) (n := 32768) gather_S2048x512_S32768x1_S32768x512_1_0_n_n_0_1_1512 rfl rfl rfl rfl rfl t _ i j
    ⟨(x (ix1 i)).toNat, h _⟩ ?_ (by decide)
  rw [broadcastInDim_apply _ _ _ (ix2 i (0 : Fin 1)) (ix1 i) (fun a => match a with | ⟨0, _⟩ => rfl)]
  have hs : BitVec.slt (x (ix1 i)) 0#32 = false := by
    have := h (ix1 i)
    rw [BitVec.slt_eq_decide, decide_eq_false_iff_not, BitVec.toInt_eq_toNat_cond]
    simp only [BitVec.toInt_zero, Nat.reducePow]
    omega
  show (if IntOp.cmpi .slt (x (ix1 i)) 0#32 = 1#1 then _ else x (ix1 i)) = _
  rw [show IntOp.cmpi .slt (x (ix1 i)) 0#32 = BitVec.ofBool (BitVec.slt (x (ix1 i)) 0#32) from rfl, hs, if_neg (by decide)]
  exact BitVec.eq_of_toNat_eq (by simp)

/-- The two results are one array. -/
theorem algebraic : Cert.algebraic_KernelIdeal_ReferenceIdeal (hKernelIdeal := Cert.KernelIdeal.Gen.facts)
    (hReferenceIdeal := Cert.ReferenceIdeal.Gen.facts) (hPre_in_rows := Cert.Pre_in_rows.Gen.facts) := by
  intro m ρ m' ρ' hpre hm
  have h : ∀ (d : Dev Cert.KernelIdeal.nD) i, (Gather.ind m d i).toNat < 2048 := fun d i => Gather.in_rows_at (F := Ideal) _ _ (hpre d) i
  refine ⟨fun c => Gather.V3 m c (Proc.devRef .tc Cert.KernelIdeal.main_v11),
    (θ_run Cert.KernelIdeal.defs _ _).mono (fun _ hr => hr.1) (run_gather (F := Ideal) m ρ h),
    (θ_run Cert.ReferenceIdeal.defs _ _).mono (fun r hr c => ⟨(hr c).1.trans ?_, (hr c).2⟩) (Cert.ReferenceIdeal.Value.run (F := Ideal) m' ρ')⟩
  rw [(hm c).1, (hm c).2]
  refine funext fun k => ?_
  obtain ⟨i, j, rfl⟩ : ∃ (i : Fin 32768) (j : Fin 512), k = ix2 i j := ⟨k 0, k 1, eq_ix2 (n0 := 32768) (n1 := 512) k⟩
  exact (reference_at _ _ (h c) i j).trans (Gather.out_at m c (h c) i j).symm

theorem claim : Cert.Claim :=
  ⟨Cert.Kernel.Gen.facts, Cert.KernelIdeal.Gen.facts, Cert.ReferenceIdeal.Gen.facts,
    Cert.Attend.Gen.facts, Cert.AttendIdeal.Gen.facts, Cert.AttendReferenceIdeal.Gen.facts,
    Cert.Project.Gen.facts, Cert.ProjectIdeal.Gen.facts, Cert.ProjectReferenceIdeal.Gen.facts,
    Cert.Qkv.Gen.facts, Cert.QkvIdeal.Gen.facts, Cert.QkvReferenceIdeal.Gen.facts,
    Cert.Search.Gen.facts, Cert.SearchReference.Gen.facts,
    Cert.Pre_in_rows.Gen.facts, Cert.Pre_finite.Gen.facts,
    frame_kernel, frame_ideal, frame_reference, frame_reference_pre,
    Attn.frame_kernel, Attn.frame_ideal, Attn.frame_ideal_pre, Attn.frame_reference, Attn.frame_reference_pre,
    Proj.frame_kernel, Proj.frame_ideal, Proj.frame_reference,
    Qkv.frame_kernel, Qkv.frame_ideal, Qkv.frame_reference,
    Search.frame_kernel, Search.frame_reference,
    trivial, algebraic, trivial, Attn.algebraic, trivial, Proj.algebraic, Qkv.preserves, Qkv.algebraic, Search.bitexact⟩

end Cert.Proof

end
